-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v96) = v1 c
          ∧ r.2.mem ((c.tc : Thread Cert.Reference3Ideal.nD Cert.Reference3Ideal.τ).loc Cert.Reference3Ideal.main_v98) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "inv_384" .f32 0x3B2AAAAB#32 ((1 / 384 : ℝ) : EReal)
  ∧ IdealRules.named_const.Statement Cert.Kernel4Ideal.κ "inv_96" .f32 0x3C2AAAAB#32 ((1 / 96 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v143) = v0 c
          ∧ r.2.mem ((c.tc : Thread Cert.Reference4Ideal.nD Cert.Reference4Ideal.τ).loc Cert.Reference4Ideal.main_v146) = v1 c
          ∧ r.2.mem ((c.tc : Thread Cert.Reference4Ideal.nD Cert.Reference4Ideal.τ).loc Cert.Reference4Ideal.main_v148) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_queries_and_keys.lean ====
abbrev S2x8x16384x128 : Shape := ⟨4, ![2, 8, 16384, 128]⟩
abbrev S2x16384x512 : Shape := ⟨3, ![2, 16384, 512]⟩
abbrev S_ : Shape := ⟨0, ![]⟩

class Facts : Prop where
  bitsLt_bf16_f32 : FTy.bits .bf16 < FTy.bits .f32
  bcast_S_S2x8x16384x128 : S_.BroadcastsInDim S2x8x16384x128 (![] : Fin 0 → Fin S2x8x16384x128.rank)

variable [Facts]

def fn {F : FTy → Type} [FloatOps F] (main_arg0 : FVec F S2x8x16384x128 .bf16) (main_arg1 : FVec F S2x8x16384x128 .bf16) (main_arg2 : FVec F S2x16384x512 .bf16) : IVec S2x8x16384x128 1 :=
  let main_v0 : FVec F S2x8x16384x128 .f32 := (extf .f32 · bitsLt_bf16_f32) main_arg0
  let main_v1 : FVec F S2x8x16384x128 .f32 := Host.absf main_v0
  let main_cst : FVec F S_ .f32 := constant S_ .f32 0x7F800000#32
  let main_v2 : FVec F S2x8x16384x128 .f32 := broadcastInDim S2x8x16384x128 ![] bcast_S_S2x8x16384x128 main_cst
  let main_v3 : IVec S2x8x16384x128 1 := cmpf .olt main_v1 main_v2
  let main_v4 : FVec F S2x8x16384x128 .f32 := (extf .f32 · bitsLt_bf16_f32) main_arg1
  let main_v5 : FVec F S2x8x16384x128 .f32 := Host.absf main_v4
  let main_cst_0 : FVec F S_ .f32 := constant S_ .f32 0x7F800000#32
  let main_v6 : FVec F S2x8x16384x128 .f32 := broadcastInDim S2x8x16384x128 ![] bcast_S_S2x8x16384x128 main_cst_0
  let main_v7 : IVec S2x8x16384x128 1 := cmpf .olt main_v5 main_v6
  let main_v8 : IVec S2x8x16384x128 1 := andi main_v3 main_v7
  main_v8
-- ==== Kernel.lean ====
abbrev S2x8x16384x128 : Shape := ⟨4, ![2, 8, 16384, 128]⟩
abbrev S2x16384x512 : Shape := ⟨3, ![2, 16384, 512]⟩
abbrev S1x2x512x128 : Shape := ⟨4, ![1, 2, 512, 128]⟩
abbrev S1x512x128 : Shape := ⟨3, ![1, 512, 128]⟩
abbrev S2x512x1 : Shape := ⟨3, ![2, 512, 1]⟩
abbrev S2x512x128 : Shape := ⟨3, ![2, 512, 128]⟩
abbrev S512x128 : Shape := ⟨2, ![512, 128]⟩
abbrev S1x1x512x128 : Shape := ⟨4, ![1, 1, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x16384x512, .bf16⟩
  | .hbm, ⟨3, _⟩ => ⟨S2x16384x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x512x128, .bf16⟩
  | .local _ .vmem, ⟨3, _⟩ => ⟨S1x2x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 32, 32], ![false, false, false, false]⟩

def k0_cond2 (i : grid0.Coords) : BitVec 1 :=
  let arg3 : BitVec 32 := BitVec.ofNat 32 (i 3).val
  let c31_i32 : BitVec 32 := 31#32
  let v79 : BitVec 1 := Scalar.cmpi .eq arg3 c31_i32
  let v80 : BitVec 32 := Scalar.extui v79
  let c0_i32_61 : BitVec 32 := 0#32
  let v81 : BitVec 1 := Scalar.cmpi .ne v80 c0_i32_61
  v81

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x8x16384x128 : Shape := ⟨4, ![2, 8, 16384, 128]⟩
abbrev S2x16384x512 : Shape := ⟨3, ![2, 16384, 512]⟩
abbrev S2x16384x8x64 : Shape := ⟨4, ![2, 16384, 8, 64]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 26
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x16384x512, .bf16⟩
  | .hbm, ⟨3, _⟩ => ⟨S2x8x16384x128, .f32⟩
  | .hbm, ⟨4, _⟩ => ⟨S2x8x16384x128, .f32⟩
  | .hbm, ⟨5, _⟩ => ⟨S2x16384x512, .f32⟩
  | .hbm, ⟨6, _⟩ => ⟨S2x16384x8x64, .f32⟩
  | .hbm, ⟨7, _⟩ => ⟨S2x8x16384x16384, .f32⟩
  | .hbm, ⟨8, _⟩ => ⟨S_, .f32⟩
  | .hbm, ⟨9, _⟩ => ⟨S2x8x16384, .f32⟩
  | .hbm, ⟨10, _⟩ => ⟨S_, .f32⟩
  | .hbm, ⟨11, _⟩ => ⟨S2x8x16384, .f32⟩
  | .hbm, ⟨12, _⟩ => ⟨S2x8x16384, .f32⟩
  | .hbm, ⟨13, _⟩ => ⟨S2x8x16384x1, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S_, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x64x16384, .f32⟩
  | .hbm, ⟨23, _⟩ => ⟨S2x16384x8x64, .f32⟩
  | .hbm, ⟨24, _⟩ => ⟨S2x16384x512, .f32⟩
  | .hbm, ⟨25, _⟩ => ⟨S2x16384x512, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x8320 : Shape := ⟨2, ![1024, 8320]⟩
abbrev S1024x128 : Shape := ⟨2, ![1024, 128]⟩
abbrev S1x1024 : Shape := ⟨2, ![1, 1024]⟩
abbrev S32768x8320 : Shape := ⟨2, ![32768, 8320]⟩
abbrev S32768x128 : Shape := ⟨2, ![32768, 128]⟩
abbrev S1024x1024 : Shape := ⟨2, ![1024, 1024]⟩
abbrev S1024x1664 : Shape := ⟨2, ![1024, 1664]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8320, .bf16⟩
  | .hbm, ⟨3, _⟩ => ⟨S1024x128, .bf16⟩
  | .hbm, ⟨4, _⟩ => ⟨S1x1024, .f32⟩
  | .hbm, ⟨5, _⟩ => ⟨S32768x8320, .bf16⟩
  | .hbm, ⟨6, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1664, .bf16⟩
  | .local _ .vmem, ⟨4, _⟩ => ⟨S1024x1664, .bf16⟩
  | .local _ .vmem, ⟨5, _⟩ => ⟨S1024x128, .bf16⟩
  | .local _ .vmem, ⟨6, _⟩ => ⟨S1024x1664, .bf16⟩
  | .local _ .vmem, ⟨7, _⟩ => ⟨S1024x1664, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x1024 : Shape := ⟨2, ![32768, 1024]⟩
abbrev S1024 : Shape := ⟨1, ![1024]⟩
abbrev S1024x8320 : Shape := ⟨2, ![1024, 8320]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8320 : Shape := ⟨2, ![32768, 8320]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8320, .bf16⟩
  | .hbm, ⟨3, _⟩ => ⟨S1024x128, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x8320, .f32⟩
  | .hbm, ⟨21, _⟩ => ⟨S32768x8320, .f32⟩
  | .hbm, ⟨22, _⟩ => ⟨S32768x8320, .bf16⟩
  | .hbm, ⟨23, _⟩ => ⟨S1024x128, .f32⟩
  | .hbm, ⟨24, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S2x16384x8320 : Shape := ⟨3, ![2, 16384, 8320]⟩
abbrev S2x256x1024 : Shape := ⟨3, ![2, 256, 1024]⟩
abbrev S1024x1024 : Shape := ⟨2, ![1024, 1024]⟩
abbrev S512x1024 : Shape := ⟨2, ![512, 1024]⟩
abbrev S1024x2048 : Shape := ⟨2, ![1024, 2048]⟩
abbrev S1x128 : Shape := ⟨2, ![1, 128]⟩
abbrev S1x1024 : Shape := ⟨2, ![1, 1024]⟩
abbrev S2x16384x2048 : Shape := ⟨3, ![2, 16384, 2048]⟩
abbrev S1x256x1024 : Shape := ⟨3, ![1, 256, 1024]⟩
abbrev S1x256x512 : Shape := ⟨3, ![1, 256, 512]⟩
abbrev S1x256x2048 : Shape := ⟨3, ![1, 256, 2048]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x2048 : Shape := ⟨2, ![256, 2048]⟩

abbrev nBuf : Space → Nat
  | .hbm => 16
  | .vmem => 30
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S2x16384x8320, .bf16⟩
  | .hbm, ⟨4, _⟩ => ⟨S2x256x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1024x2048, .bf16⟩
  | .hbm, ⟨10, _⟩ => ⟨S1x128, .f32⟩
  | .hbm, ⟨11, _⟩ => ⟨S1x128, .f32⟩
  | .hbm, ⟨12, _⟩ => ⟨S1x1024, .f32⟩
  | .hbm, ⟨13, _⟩ => ⟨S2x16384x1024, .f32⟩
  | .hbm, ⟨14, _⟩ => ⟨S2x16384x1024, .f32⟩
  | .hbm, ⟨15, _⟩ => ⟨S2x16384x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x1024, .f32⟩
  | .local _ .vmem, ⟨15, _⟩ => ⟨S1x256x1024, .f32⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x2048, .bf16⟩
  | .local _ .vmem, ⟨21, _⟩ => ⟨S1x128, .f32⟩
  | .local _ .vmem, ⟨22, _⟩ => ⟨S1x128, .f32⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x2048, .f32⟩
  | .local _ .vmem, ⟨29, _⟩ => ⟨S1x256x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_6 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S2x16384x1024 : Shape := ⟨3, ![2, 16384, 1024]⟩
abbrev S2x16384x512 : Shape := ⟨3, ![2, 16384, 512]⟩
abbrev S2x16384x8320 : Shape := ⟨3, ![2, 16384, 8320]⟩
abbrev S2x256x1024 : Shape := ⟨3, ![2, 256, 1024]⟩
abbrev S1024x1024 : Shape := ⟨2, ![1024, 1024]⟩
abbrev S512x1024 : Shape := ⟨2, ![512, 1024]⟩
abbrev S1024x2048 : Shape := ⟨2, ![1024, 2048]⟩
abbrev S1x128 : Shape := ⟨2, ![1, 128]⟩
abbrev S1x1024 : Shape := ⟨2, ![1, 1024]⟩
abbrev S2x16384x3072 : Shape := ⟨3, ![2, 16384, 3072]⟩
abbrev S2x256x512 : Shape := ⟨3, ![2, 256, 512]⟩
abbrev S2x256x4x128 : Shape := ⟨4, ![2, 256, 4, 128]⟩
abbrev S128 : Shape := ⟨1, ![128]⟩
abbrev S_ : Shape := ⟨0, ![]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x3x1024 : Shape := ⟨4, ![2, 16384, 3, 1024]⟩
abbrev S2x16384x1x1024 : Shape := ⟨4, ![2, 16384, 1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩

abbrev nBuf : Space → Nat
  | .hbm => 127
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S2x16384x8320, .bf16⟩
  | .hbm, ⟨4, _⟩ => ⟨S2x256x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1024x2048, .bf16⟩
  | .hbm, ⟨10, _⟩ => ⟨S1x128, .f32⟩
  | .hbm, ⟨11, _⟩ => ⟨S1x128, .f32⟩
  | .hbm, ⟨12, _⟩ => ⟨S1x1024, .f32⟩
  | .hbm, ⟨13, _⟩ => ⟨S2x16384x3072, .bf16⟩
  | .hbm, ⟨14, _⟩ => ⟨S2x16384x3072, .f32⟩
  | .hbm, ⟨15, _⟩ => ⟨S2x16384x512, .bf16⟩
  | .hbm, ⟨16, _⟩ => ⟨S2x16384x512, .f32⟩
  | .hbm, ⟨17, _⟩ => ⟨S2x256x512, .f32⟩
  | .hbm, ⟨18, _⟩ => ⟨S2x256x4x128, .f32⟩
  | .hbm, ⟨19, _⟩ => ⟨S128, .f32⟩
  | .hbm, ⟨20, _⟩ => ⟨S2x256x4x128, .f32⟩
  | .hbm, ⟨21, _⟩ => ⟨S_, .f32⟩
  | .hbm, ⟨22, _⟩ => ⟨S2x256x4, .f32⟩
  | .hbm, ⟨23, _⟩ => ⟨S2x256x4x1, .f32⟩
  | .hbm, ⟨24, _⟩ => ⟨S_, .f32⟩
  | .hbm, ⟨25, _⟩ => ⟨S2x256x4x1, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S2x256x4x1, .f32⟩
  | .hbm, ⟨31, _⟩ => ⟨S2x256x4x128, .f32⟩
  | .hbm, ⟨32, _⟩ => ⟨S2x256x4x128, .f32⟩
  | .hbm, ⟨33, _⟩ => ⟨S1x1x1x128, .f32⟩
  | .hbm, ⟨34, _⟩ => ⟨S2x256x4x128, .f32⟩
  | .hbm, ⟨35, _⟩ => ⟨S2x256x4x128, .f32⟩
  | .hbm, ⟨36, _⟩ => ⟨S2x256x512, .f32⟩
  | .hbm, ⟨37, _⟩ => ⟨S2x256x4x128, .f32⟩
  | .hbm, ⟨38, _⟩ => ⟨S2x16384x4x128, .f32⟩
  | .hbm, ⟨39, _⟩ => ⟨S128, .f32⟩
  | .hbm, ⟨40, _⟩ => ⟨S2x16384x4x128, .f32⟩
  | .hbm, ⟨41, _⟩ => ⟨S_, .f32⟩
  | .hbm, ⟨42, _⟩ => ⟨S2x16384x4, .f32⟩
  | .hbm, ⟨43, _⟩ => ⟨S2x16384x4x1, .f32⟩
  | .hbm, ⟨44, _⟩ => ⟨S_, .f32⟩
  | .hbm, ⟨45, _⟩ => ⟨S2x16384x4x1, .f32⟩
  | .hbm, ⟨46, _⟩ => ⟨S2x16384x4x1, .f32⟩
  | .hbm, ⟨47, _⟩ => ⟨S_, .f32⟩
  | .hbm, ⟨48, _⟩ => ⟨S2x16384x4x1, .f32⟩
  | .hbm, ⟨49, _⟩ => ⟨S2x16384x4x1, .f32⟩
  | .hbm, ⟨50, _⟩ => ⟨S2x16384x4x1, .f32⟩
  | .hbm, ⟨51, _⟩ => ⟨S2x16384x4x128, .f32⟩
  | .hbm, ⟨52, _⟩ => ⟨S2x16384x4x128, .f32⟩
  | .hbm, ⟨53, _⟩ => ⟨S1x1x1x128, .f32⟩
  | .hbm, ⟨54, _⟩ => ⟨S2x16384x4x128, .f32⟩
  | .hbm, ⟨55, _⟩ => ⟨S2x16384x4x128, .f32⟩
  | .hbm, ⟨56, _⟩ => ⟨S2x4x16384x256, .f32⟩
  | .hbm, ⟨57, _⟩ => ⟨S_, .f32⟩
  | .hbm, ⟨58, _⟩ => ⟨S2x4x16384x256, .f32⟩
  | .hbm, ⟨59, _⟩ => ⟨S2x4x16384x256, .f32⟩
  | .hbm, ⟨60, _⟩ => ⟨S_, .f32⟩
  | .hbm, ⟨61, _⟩ => ⟨S2x4x16384, .f32⟩
  | .hbm, ⟨62, _⟩ => ⟨S_, .f32⟩
  | .hbm, ⟨63, _⟩ => ⟨S2x4x16384, .f32⟩
  | .hbm, ⟨64, _⟩ => ⟨S2x4x16384, .f32⟩
  | .hbm, ⟨65, _⟩ => ⟨S2x4x16384x1, .f32⟩
  | .hbm, ⟨66, _⟩ => ⟨S2x4x16384x256, .f32⟩
  | .hbm, ⟨67, _⟩ => ⟨S2x4x16384x256, .f32⟩
  | .hbm, ⟨68, _⟩ => ⟨S2x4x16384x256, .f32⟩
  | .hbm, ⟨69, _⟩ => ⟨S_, .f32⟩
  | .hbm, ⟨70, _⟩ => ⟨S2x4x16384, .f32⟩
  | .hbm, ⟨71, _⟩ => ⟨S2x4x16384x1, .f32⟩
  | .hbm, ⟨72, _⟩ => ⟨S2x4x16384x256, .f32⟩
  | .hbm, ⟨73, _⟩ => ⟨S2x4x16384x256, .f32⟩
  | .hbm, ⟨74, _⟩ => ⟨S2x4x128x16384, .f32⟩
  | .hbm, ⟨75, _⟩ => ⟨S2x16384x4x128, .f32⟩
  | .hbm, ⟨76, _⟩ => ⟨S2x16384x512, .f32⟩
  | .hbm, ⟨77, _⟩ => ⟨S512x1024, .f32⟩
  | .hbm, ⟨78, _⟩ => ⟨S2x16384x1024, .f32⟩
  | .hbm, ⟨79, _⟩ => ⟨S2x16384x1024, .f32⟩
  | .hbm, ⟨80, _⟩ => ⟨S1024x1024, .f32⟩
  | .hbm, ⟨81, _⟩ => ⟨S2x16384x1024, .f32⟩
  | .hbm, ⟨82, _⟩ => ⟨S2x16384x512, .f32⟩
  | .hbm, ⟨83, _⟩ => ⟨S512x1024, .f32⟩
  | .hbm, ⟨84, _⟩ => ⟨S2x16384x1024, .f32⟩
  | .hbm, ⟨85, _⟩ => ⟨S2x16384x3072, .f32⟩
  | .hbm, ⟨86, _⟩ => ⟨S2x16384x3072, .f32⟩
  | .hbm, ⟨87, _⟩ => ⟨S_, .f32⟩
  | .hbm, ⟨88, _⟩ => ⟨S2x16384x3072, .f32⟩
  | .hbm, ⟨89, _⟩ => ⟨S2x16384x3072, .f32⟩
  | .hbm, ⟨90, _⟩ => ⟨S_, .f32⟩
  | .hbm, ⟨91, _⟩ => ⟨S2x16384x3072, .f32⟩
  | .hbm, ⟨92, _⟩ => ⟨S2x16384x3072, .f32⟩
  | .hbm, ⟨93, _⟩ => ⟨S2x16384x3x1024, .f32⟩
  | .hbm, ⟨94, _⟩ => ⟨S2x16384x1x1024, .f32⟩
  | .hbm, ⟨95, _⟩ => ⟨S2x16384x1024, .f32⟩
  | .hbm, ⟨96, _⟩ => ⟨S2x16384x1024, .f32⟩
  | .hbm, ⟨97, _⟩ => ⟨S2x16384x1x1024, .f32⟩
  | .hbm, ⟨98, _⟩ => ⟨S2x16384x1024, .f32⟩
  | .hbm, ⟨99, _⟩ => ⟨S2x16384x1024, .f32⟩
  | .hbm, ⟨100, _⟩ => ⟨S2x16384x1024, .f32⟩
  | .hbm, ⟨101, _⟩ => ⟨S2x16384x1x1024, .f32⟩
  | .hbm, ⟨102, _⟩ => ⟨S2x16384x1024, .f32⟩
  | .hbm, ⟨103, _⟩ => ⟨S2x16384x1024, .f32⟩
  | .hbm, ⟨104, _⟩ => ⟨S2x16384x1024, .f32⟩
  | .hbm, ⟨105, _⟩ => ⟨S1024x1024, .f32⟩
  | .hbm, ⟨106, _⟩ => ⟨S2x16384x1024, .f32⟩
  | .hbm, ⟨107, _⟩ => ⟨S2x16384x1024, .f32⟩
  | .hbm, ⟨108, _⟩ => ⟨S1024, .f32⟩
  | .hbm, ⟨109, _⟩ => ⟨S2x16384x1024, .f32⟩
  | .hbm, ⟨110, _⟩ => ⟨S_, .f32⟩
  | .hbm, ⟨111, _⟩ => ⟨S2x16384, .f32⟩
  | .hbm, ⟨112, _⟩ => ⟨S2x16384x1, .f32⟩
  | .hbm, ⟨113, _⟩ => ⟨S_, .f32⟩
  | .hbm, ⟨114, _⟩ => ⟨S2x16384x1, .f32⟩
  | .hbm, ⟨115, _⟩ => ⟨S2x16384x1, .f32⟩
  | .hbm, ⟨116, _⟩ => ⟨S_, .f32⟩
  | .hbm, ⟨117, _⟩ => ⟨S2x16384x1, .f32⟩
  | .hbm, ⟨118, _⟩ => ⟨S2x16384x1, .f32⟩
  | .hbm, ⟨119, _⟩ => ⟨S2x16384x1, .f32⟩
  | .hbm, ⟨120, _⟩ => ⟨S2x16384x1024, .f32⟩
  | .hbm, ⟨121, _⟩ => ⟨S2x16384x1024, .f32⟩
  | .hbm, ⟨122, _⟩ => ⟨S1x1x1024, .f32⟩
  | .hbm, ⟨123, _⟩ => ⟨S2x16384x1024, .f32⟩
  | .hbm, ⟨124, _⟩ => ⟨S2x16384x1024, .f32⟩
  | .hbm, ⟨125, _⟩ => ⟨S1024x2048, .f32⟩
  | .hbm, ⟨126, _⟩ => ⟨S2x16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_11 : Ref sig .tc := ⟨.hbm, 110, rfl⟩
abbrev main_v85 : Ref sig .tc := ⟨.hbm, 111, rfl⟩
abbrev main_v86 : Ref sig .tc := ⟨.hbm, 112, rfl⟩
abbrev main_cst_12 : Ref sig .tc := ⟨.hbm, 113, rfl⟩
abbrev main_v87 : Ref sig .tc := ⟨.hbm, 114, rfl⟩
abbrev main_v88 : Ref sig .tc := ⟨.hbm, 115, rfl⟩
abbrev main_cst_13 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== Kernel4.lean ====
abbrev S2x16384x8320 : Shape := ⟨3, ![2, 16384, 8320]⟩
abbrev S2x16384x128 : Shape := ⟨3, ![2, 16384, 128]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S_ : Shape := ⟨0, ![]⟩
abbrev S384x8x32 : Shape := ⟨3, ![384, 8, 32]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S32 : Shape := ⟨1, ![32]⟩
abbrev S128 : Shape := ⟨1, ![128]⟩
abbrev S1x128 : Shape := ⟨2, ![1, 128]⟩
abbrev S1x384 : Shape := ⟨2, ![1, 384]⟩
abbrev S1x256 : Shape := ⟨2, ![1, 256]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S2x8x16384x128 : Shape := ⟨4, ![2, 8, 16384, 128]⟩
abbrev S2x16384x512 : Shape := ⟨3, ![2, 16384, 512]⟩
abbrev S1x512x640 : Shape := ⟨3, ![1, 512, 640]⟩
abbrev S1x512x128 : Shape := ⟨3, ![1, 512, 128]⟩
abbrev S512x128 : Shape := ⟨2, ![512, 128]⟩
abbrev S1x8x512x128 : Shape := ⟨4, ![1, 8, 512, 128]⟩
abbrev S1x512x512 : Shape := ⟨3, ![1, 512, 512]⟩
abbrev S512x640 : Shape := ⟨2, ![512, 640]⟩
abbrev S512x384 : Shape := ⟨2, ![512, 384]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩
abbrev S512x512 : Shape := ⟨2, ![512, 512]⟩
abbrev S1x1x512x128 : Shape := ⟨4, ![1, 1, 512, 128]⟩

abbrev nBuf : Space → Nat
  | .hbm => 64
  | .vmem => 23
  | .smem => 0
  | _ => 0

abbrev bufTy : (tb : Table) → Fin (tcTables nBuf tb) → BufTy
  | .hbm, ⟨0, _⟩ => ⟨S2x16384x8320, .bf16⟩
  | .hbm, ⟨1, _⟩ => ⟨S2x16384x128, .f32⟩
  | .hbm, ⟨2, _⟩ => ⟨S384, .f32⟩
  | .hbm, ⟨3, _⟩ => ⟨S256, .f32⟩
  | .hbm, ⟨4, _⟩ => ⟨S384x768, .f32⟩
  | .hbm, ⟨5, _⟩ => ⟨S256x1024, .f32⟩
  | .hbm, ⟨6, _⟩ => ⟨S96, .f32⟩
  | .hbm, ⟨7, _⟩ => ⟨S96, .f32⟩
  | .hbm, ⟨8, _⟩ => ⟨S_, .f32⟩
  | .hbm, ⟨9, _⟩ => ⟨S384x8x32, .f32⟩
  | .hbm, ⟨10, _⟩ => ⟨S384x8x96, .f32⟩
  | .hbm, ⟨11, _⟩ => ⟨S384x8x128, .f32⟩
  | .hbm, ⟨12, _⟩ => ⟨S384x1024, .f32⟩
  | .hbm, ⟨13, _⟩ => ⟨S384x1024, .bf16⟩
  | .hbm, ⟨14, _⟩ => ⟨S256x8x128, .f32⟩
  | .hbm, ⟨15, _⟩ => ⟨S_, .f32⟩
  | .hbm, ⟨16, _⟩ => ⟨S256x8x64, .f32⟩
  | .hbm, ⟨17, _⟩ => ⟨S256x8x64, .f32⟩
  | .hbm, ⟨18, _⟩ => ⟨S256x8x128, .f32⟩
  | .hbm, ⟨19, _⟩ => ⟨S256x1024, .f32⟩
  | .hbm, ⟨20, _⟩ => ⟨S256x1024, .bf16⟩
  | .hbm, ⟨21, _⟩ => ⟨S256x8x64, .f32⟩
  | .hbm, ⟨22, _⟩ => ⟨S256x512, .f32⟩
  | .hbm, ⟨23, _⟩ => ⟨S256x512, .bf16⟩
  | .hbm, ⟨24, _⟩ => ⟨S_, .f32⟩
  | .hbm, ⟨25, _⟩ => ⟨S32, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1x384, .f32⟩
  | .hbm, ⟨31, _⟩ => ⟨S1x256, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16384, .i32⟩
  | .hbm, ⟨41, _⟩ => ⟨S16384, .f32⟩
  | .hbm, ⟨42, _⟩ => ⟨S16384x1, .f32⟩
  | .hbm, ⟨43, _⟩ => ⟨S1x16, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S_, .f32⟩
  | .hbm, ⟨50, _⟩ => ⟨S16384x64, .f32⟩
  | .hbm, ⟨51, _⟩ => ⟨S_, .f32⟩
  | .hbm, ⟨52, _⟩ => ⟨S16384x32, .f32⟩
  | .hbm, ⟨53, _⟩ => ⟨S_, .f32⟩
  | .hbm, ⟨54, _⟩ => ⟨S16384x64, .f32⟩
  | .hbm, ⟨55, _⟩ => ⟨S_, .f32⟩
  | .hbm, ⟨56, _⟩ => ⟨S16384x16, .f32⟩
  | .hbm, ⟨57, _⟩ => ⟨S16384x128, .f32⟩
  | .hbm, ⟨58, _⟩ => ⟨S16384x128, .f32⟩
  | .hbm, ⟨59, _⟩ => ⟨S16384x16, .f32⟩
  | .hbm, ⟨60, _⟩ => ⟨S16384x128, .f32⟩
  | .hbm, ⟨61, _⟩ => ⟨S2x8x16384x128, .bf16⟩
  | .hbm, ⟨62, _⟩ => ⟨S2x8x16384x128, .bf16⟩
  | .hbm, ⟨63, _⟩ => ⟨S2x16384x512, .bf16⟩
  | .local _ .vmem, ⟨0, _⟩ => ⟨S1x512x640, .bf16⟩
  | .local _ .vmem, ⟨1, _⟩ => ⟨S1x512x640, .bf16⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S256x1024, .bf16⟩
  | .local _ .vmem, ⟨14, _⟩ => ⟨S256x512, .bf16⟩
  | .local _ .vmem, ⟨15, _⟩ => ⟨S1x128, .f32⟩
  | .local _ .vmem, ⟨16, _⟩ => ⟨S1x128, .f32⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x512x512, .bf16⟩
  | .local _ .vmem, ⟨22, _⟩ => ⟨S1x512x512, .bf16⟩
  | _, _ => ⟨S2x16384x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel4Ideal.lean ====
variable {F : FTy → Type} [FloatOps F] [Named F]
def κ : String → Option EReal := fun
  | "inv_384" => some ((1 / 384 : ℝ) : EReal)
  | "inv_96" => some ((1 / 96 : ℝ) : EReal)
  | _ => none
-- ==== Reference4Ideal.lean ====
abbrev S2x16384x8320 : Shape := ⟨3, ![2, 16384, 8320]⟩
abbrev S2x16384x128 : Shape := ⟨3, ![2, 16384, 128]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S2x16384x384 : Shape := ⟨3, ![2, 16384, 384]⟩
abbrev S2x16384x256 : Shape := ⟨3, ![2, 16384, 256]⟩
abbrev S2x16384x32 : Shape := ⟨3, ![2, 16384, 32]⟩
abbrev S_ : Shape := ⟨0, ![]⟩
abbrev S2x16384 : Shape := ⟨2, ![2, 16384]⟩
abbrev S2x16384x1 : Shape := ⟨3, ![2, 16384, 1]⟩
abbrev S1x1x384 : Shape := ⟨3, ![1, 1, 384]⟩
abbrev S2x16384x768 : Shape := ⟨3, ![2, 16384, 768]⟩
abbrev S2x16384x8x96 : Shape := ⟨4, ![2, 16384, 8, 96]⟩
abbrev S1x1x256 : Shape := ⟨3, ![1, 1, 256]⟩
abbrev S2x16384x1024 : Shape := ⟨3, ![2, 16384, 1024]⟩
abbrev S2x16384x8x128 : Shape := ⟨4, ![2, 16384, 8, 128]⟩
abbrev S2x16384x8x64 : Shape := ⟨4, ![2, 16384, 8, 64]⟩
abbrev S2x16384x1x32 : Shape := ⟨4, ![2, 16384, 1, 32]⟩
abbrev S2x16384x8x32 : Shape := ⟨4, ![2, 16384, 8, 32]⟩
abbrev S2x16384x8 : Shape := ⟨3, ![2, 16384, 8]⟩
abbrev S2x16384x8x1 : Shape := ⟨4, ![2, 16384, 8, 1]⟩
abbrev S1x1x1x96 : Shape := ⟨4, ![1, 1, 1, 96]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S2x16384x8x16 : Shape := ⟨4, ![2, 16384, 8, 16]⟩
abbrev S1x16384x1x16 : Shape := ⟨4, ![1, 16384, 1, 16]⟩
abbrev S2x8x16384x96 : Shape := ⟨4, ![2, 8, 16384, 96]⟩
abbrev S2x8x16384x128 : Shape := ⟨4, ![2, 8, 16384, 128]⟩
abbrev S2x16384x512 : Shape := ⟨3, ![2, 16384, 512]⟩

abbrev nBuf : Space → Nat
  | .hbm => 178
  | .vmem => 0
  | .smem => 0
  | _ => 0

abbrev hbmTy0_0 (i : Nat) : BufTy := match i % 128 with
  | 0 => ⟨S2x16384x8320, .bf16⟩
  | 1 => ⟨S2x16384x128, .f32⟩
  | 2 => ⟨S384, .f32⟩
  | 3 => ⟨S256, .f32⟩
  | 4 => ⟨S384x768, .f32⟩
  | 5 => ⟨S256x1024, .f32⟩
  | 6 => ⟨S96, .f32⟩
  | 7 => ⟨S96, .f32⟩
  | 8 => ⟨S2x16384x384, .bf16⟩
  | 9 => ⟨S2x16384x384, .f32⟩
  | 10 => ⟨S2x16384x256, .bf16⟩
  | 11 => ⟨S2x16384x256, .f32⟩
  | 12 => ⟨S2x16384x32, .f32⟩
  | 13 => ⟨S2x16384x384, .f32⟩
  | 14 => ⟨S_, .f32⟩
  | 15 => ⟨S2x16384, .f32⟩
  | 16 => ⟨S2x16384x1, .f32⟩
  | 17 => ⟨S_, .f32⟩
  | 18 => ⟨S2x16384x1, .f32⟩
  | 19 => ⟨S2x16384x1, .f32⟩
  | 20 => ⟨S_, .f32⟩
  | 21 => ⟨S2x16384x1, .f32⟩
  | 22 => ⟨S2x16384x1, .f32⟩
  | 23 => ⟨S2x16384x1, .f32⟩
  | 24 => ⟨S2x16384x384, .f32⟩
  | 25 => ⟨S2x16384x384, .f32⟩
  | 26 => ⟨S1x1x384, .f32⟩
  | 27 => ⟨S2x16384x384, .f32⟩
  | 28 => ⟨S2x16384x384, .f32⟩
  | 29 => ⟨S2x16384x768, .f32⟩
  | 30 => ⟨S2x16384x8x96, .f32⟩
  | 31 => ⟨S2x16384x256, .f32⟩
  | 32 => ⟨S_, .f32⟩
  | 33 => ⟨S2x16384, .f32⟩
  | 34 => ⟨S2x16384x1, .f32⟩
  | 35 => ⟨S_, .f32⟩
  | 36 => ⟨S2x16384x1, .f32⟩
  | 37 => ⟨S2x16384x1, .f32⟩
  | 38 => ⟨S_, .f32⟩
  | 39 => ⟨S2x16384x1, .f32⟩
  | 40 => ⟨S2x16384x1, .f32⟩
  | 41 => ⟨S2x16384x1, .f32⟩
  | 42 => ⟨S2x16384x256, .f32⟩
  | 43 => ⟨S2x16384x256, .f32⟩
  | 44 => ⟨S1x1x256, .f32⟩
  | 45 => ⟨S2x16384x256, .f32⟩
  | 46 => ⟨S2x16384x256, .f32⟩
  | 47 => ⟨S2x16384x1024, .f32⟩
  | 48 => ⟨S2x16384x8x128, .f32⟩
  | 49 => ⟨S2x16384x8x64, .f32⟩
  | 50 => ⟨S2x16384x8x64, .f32⟩
  | 51 => ⟨S2x16384x1x32, .f32⟩
  | 52 => ⟨S2x16384x8x32, .f32⟩
  | 53 => ⟨S2x16384x8x96, .f32⟩
  | 54 => ⟨S2x16384x8x96, .f32⟩
  | 55 => ⟨S_, .f32⟩
  | 56 => ⟨S2x16384x8, .f32⟩
  | 57 => ⟨S2x16384x8x1, .f32⟩
  | 58 => ⟨S_, .f32⟩
  | 59 => ⟨S2x16384x8x1, .f32⟩
  | 60 => ⟨S2x16384x8x1, .f32⟩
  | 61 => ⟨S_, .f32⟩
  | 62 => ⟨S2x16384x8x1, .f32⟩
  | 63 => ⟨S2x16384x8x1, .f32⟩
  | 64 => ⟨S2x16384x8x1, .f32⟩
  | 65 => ⟨S2x16384x8x96, .f32⟩
  | 66 => ⟨S2x16384x8x96, .f32⟩
  | 67 => ⟨S1x1x1x96, .f32⟩
  | 68 => ⟨S2x16384x8x96, .f32⟩
  | 69 => ⟨S2x16384x8x96, .f32⟩
  | 70 => ⟨S2x16384x8x96, .f32⟩
  | 71 => ⟨S_, .f32⟩
  | 72 => ⟨S2x16384x8, .f32⟩
  | 73 => ⟨S2x16384x8x1, .f32⟩
  | 74 => ⟨S_, .f32⟩
  | 75 => ⟨S2x16384x8x1, .f32⟩
  | 76 => ⟨S2x16384x8x1, .f32⟩
  | 77 => ⟨S_, .f32⟩
  | 78 => ⟨S2x16384x8x1, .f32⟩
  | 79 => ⟨S2x16384x8x1, .f32⟩
  | 80 => ⟨S2x16384x8x1, .f32⟩
  | 81 => ⟨S2x16384x8x96, .f32⟩
  | 82 => ⟨S2x16384x8x96, .f32⟩
  | 83 => ⟨S1x1x1x96, .f32⟩
  | 84 => ⟨S2x16384x8x96, .f32⟩
  | 85 => ⟨S2x16384x8x96, .f32⟩
  | 86 => ⟨S16384, .i32⟩
  | 87 => ⟨S2x16384x8x64, .f32⟩
  | 88 => ⟨S2x16384x8x32, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16384, .f32⟩
  | 98 => ⟨S16384x1, .f32⟩
  | 99 => ⟨S1x16, .f32⟩
  | 100 => ⟨S16384x16, .f32⟩
  | 101 => ⟨S16384x16, .f32⟩
  | 102 => ⟨S16384x16, .f32⟩
  | 103 => ⟨S16384x16, .f32⟩
  | 104 => ⟨S16384x1x16, .f32⟩
  | 105 => ⟨S16384x16, .f32⟩
  | 106 => ⟨S16384x1x16, .f32⟩
  | 107 => ⟨S2x16384x8x16, .f32⟩
  | 108 => ⟨S2x16384x8x16, .f32⟩
  | 109 => ⟨S1x16384x1x16, .f32⟩
  | 110 => ⟨S2x16384x8x16, .f32⟩
  | 111 => ⟨S2x16384x8x16, .f32⟩
  | 112 => ⟨S1x16384x1x16, .f32⟩
  | 113 => ⟨S2x16384x8x16, .f32⟩
  | 114 => ⟨S2x16384x8x16, .f32⟩
  | 115 => ⟨S2x16384x8x16, .f32⟩
  | 116 => ⟨S1x16384x1x16, .f32⟩
  | 117 => ⟨S2x16384x8x16, .f32⟩
  | 118 => ⟨S2x16384x8x16, .f32⟩
  | 119 => ⟨S1x16384x1x16, .f32⟩
  | 120 => ⟨S2x16384x8x16, .f32⟩
  | 121 => ⟨S2x16384x8x16, .f32⟩
  | 122 => ⟨S2x16384x8x16, .f32⟩
  | 123 => ⟨S2x16384x8x32, .f32⟩
  | 124 => ⟨S2x16384x8x96, .f32⟩
  | 125 => ⟨S_, .f32⟩
  | 126 => ⟨S2x16384x8x96, .f32⟩
  | 127 => ⟨S2x16384x8x96, .f32⟩
  | _ => ⟨S2x16384x8320, .bf16⟩

abbrev hbmTy0_1 (i : Nat) : BufTy := match i % 128 with
  | 0 => ⟨S2x16384x8x64, .f32⟩
  | 1 => ⟨S2x16384x8x32, .f32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16384, .f32⟩
  | 11 => ⟨S16384x1, .f32⟩
  | 12 => ⟨S1x16, .f32⟩
  | 13 => ⟨S16384x16, .f32⟩
  | 14 => ⟨S16384x16, .f32⟩
  | 15 => ⟨S16384x16, .f32⟩
  | 16 => ⟨S16384x16, .f32⟩
  | 17 => ⟨S16384x1x16, .f32⟩
  | 18 => ⟨S16384x16, .f32⟩
  | 19 => ⟨S16384x1x16, .f32⟩
  | 20 => ⟨S2x16384x8x16, .f32⟩
  | 21 => ⟨S2x16384x8x16, .f32⟩
  | 22 => ⟨S1x16384x1x16, .f32⟩
  | 23 => ⟨S2x16384x8x16, .f32⟩
  | 24 => ⟨S2x16384x8x16, .f32⟩
  | 25 => ⟨S1x16384x1x16, .f32⟩
  | 26 => ⟨S2x16384x8x16, .f32⟩
  | 27 => ⟨S2x16384x8x16, .f32⟩
  | 28 => ⟨S2x16384x8x16, .f32⟩
  | 29 => ⟨S1x16384x1x16, .f32⟩
  | 30 => ⟨S2x16384x8x16, .f32⟩
  | 31 => ⟨S2x16384x8x16, .f32⟩
  | 32 => ⟨S1x16384x1x16, .f32⟩
  | 33 => ⟨S2x16384x8x16, .f32⟩
  | 34 => ⟨S2x16384x8x16, .f32⟩
  | 35 => ⟨S2x16384x8x16, .f32⟩
  | 36 => ⟨S2x16384x8x32, .f32⟩
  | 37 => ⟨S2x16384x8x96, .f32⟩
  | 38 => ⟨S2x8x16384x96, .f32⟩
  | 39 => ⟨S_, .i32⟩
  | 40 => ⟨S_, .f32⟩
  | 41 => ⟨S2x8x16384x128, .f32⟩
  | 42 => ⟨S2x8x16384x128, .bf16⟩
  | 43 => ⟨S2x8x16384x96, .f32⟩
  | 44 => ⟨S_, .i32⟩
  | 45 => ⟨S_, .f32⟩
  | 46 => ⟨S2x8x16384x128, .f32⟩
  | 47 => ⟨S2x8x16384x128, .bf16⟩
  | 48 => ⟨S2x16384x512, .f32⟩
  | 49 => ⟨S2x16384x512, .bf16⟩
  | _ => ⟨S2x16384x8320, .bf16⟩

abbrev hbmTy (i : Nat) : BufTy := match i / 128 with
  | 0 => hbmTy0_0 i
  | 1 => hbmTy0_1 i
  | _ => ⟨S2x16384x8320, .bf16⟩

abbrev bufTy : (tb : Table) → Fin (tcTables nBuf tb) → BufTy
  | .hbm, ⟨i, _⟩ => hbmTy i
  | _, _ => ⟨S2x16384x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_14 : Ref sig .tc := ⟨.hbm, 132, rfl⟩
abbrev main_v109 : Ref sig .tc := ⟨.hbm, 133, rfl⟩
abbrev main_v110 : Ref sig .tc := ⟨.hbm, 134, rfl⟩
abbrev main_cst_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_c : Ref sig .tc := ⟨.hbm, 167, rfl⟩
abbrev main_call0_v0 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_c_16 : Ref sig .tc := ⟨.hbm, 172, rfl⟩
abbrev main_call1_v0 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩

abbrev nD : Nat := 1
abbrev τ : Topo := Topo.v7x

variable {F : FTy → Type} [FloatOps F]
-- ==== Kernel5.lean ====
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference5Ideal.lean ====
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S2x16384x8320 : Shape := ⟨3, ![2, 16384, 8320]⟩
abbrev S5x3072 : Shape := ⟨2, ![5, 3072]⟩
abbrev S2x24x16384x128 : Shape := ⟨4, ![2, 24, 16384, 128]⟩
abbrev S1x16384x128 : Shape := ⟨3, ![1, 16384, 128]⟩
abbrev S5x128 : Shape := ⟨2, ![5, 128]⟩
abbrev S1x1x16384x128 : Shape := ⟨4, ![1, 1, 16384, 128]⟩
abbrev S1x512x128 : Shape := ⟨3, ![1, 512, 128]⟩
abbrev S512x128 : Shape := ⟨2, ![512, 128]⟩
abbrev S1x16x128 : Shape := ⟨3, ![1, 16, 128]⟩
abbrev S16x128 : Shape := ⟨2, ![16, 128]⟩
abbrev S544x128 : Shape := ⟨2, ![544, 128]⟩
abbrev S1x128 : Shape := ⟨2, ![1, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x8320, .bf16⟩
  | .hbm, ⟨1, _⟩ => ⟨S5x3072, .f32⟩
  | .hbm, ⟨2, _⟩ => ⟨S2x24x16384x128, .bf16⟩
  | .local _ .vmem, ⟨0, _⟩ => ⟨S1x16384x128, .bf16⟩
  | .local _ .vmem, ⟨1, _⟩ => ⟨S1x16384x128, .bf16⟩
  | .local _ .vmem, ⟨2, _⟩ => ⟨S5x128, .f32⟩
  | .local _ .vmem, ⟨3, _⟩ => ⟨S5x128, .f32⟩
  | .local _ .vmem, ⟨4, _⟩ => ⟨S1x1x16384x128, .bf16⟩
  | .local _ .vmem, ⟨5, _⟩ => ⟨S1x1x16384x128, .bf16⟩
  | _, _ => ⟨S2x16384x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  v3
def k0_off1 (k0_t1 : Fin k0_t1_loop.trips) : Fin 3 → Nat :=
  let c0_2 : Index := 0#32
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let v5 : Index := Scalar.indexCast v4
  let c0_3 : Index := 0#32
  ![0, v5.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let c16_i32_4 : BitVec 32 := 16#32
  let v9 : BitVec 32 := Scalar.subi v4 c16_i32_4
  let c0_i32_5 : BitVec 32 := 0#32
  let v10 : BitVec 32 := Scalar.maxsi v9 c0_i32_5
  v10
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let c512_i32_6 : BitVec 32 := 512#32
  let v12 : BitVec 32 := Scalar.addi v4 c512_i32_6
  let c16368_i32 : BitVec 32 := 16368#32
  let v13 : BitVec 32 := Scalar.minsi v12 c16368_i32
  v13
def k0_off2 (k0_t1 : Fin k0_t1_loop.trips) : Fin 3 → Nat :=
  let c0_8 : Index := 0#32
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let c16_i32_4 : BitVec 32 := 16#32
  let v9 : BitVec 32 := Scalar.subi v4 c16_i32_4
  let c0_i32_5 : BitVec 32 := 0#32
  let v10 : BitVec 32 := Scalar.maxsi v9 c0_i32_5
  let v11 : BitVec 32 := v10
  let v16 : Index := Scalar.indexCast v11
  let c0_9 : Index := 0#32
  ![0, v16.toNat, 0]
def k0_off3 (k0_t1 : Fin k0_t1_loop.trips) : Fin 3 → Nat :=
  let c0_10 : Index := 0#32
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let c512_i32_6 : BitVec 32 := 512#32
  let v12 : BitVec 32 := Scalar.addi v4 c512_i32_6
  let c16368_i32 : BitVec 32 := 16368#32
  let v13 : BitVec 32 := Scalar.minsi v12 c16368_i32
  let v14 : BitVec 32 := v13
  let v23 : Index := Scalar.indexCast v14
  let c0_11 : Index := 0#32
  ![0, v23.toNat, 0]
def k0_off4 (k0_t1 : Fin k0_t1_loop.trips) : Fin 4 → Nat :=
  let c0_16 : Index := 0#32
  let c0_17 : Index := 0#32
  let c0_i32 : BitVec 32 := 0#32
  let c1_i32 : BitVec 32 := 1#32
  let arg5 : BitVec 32 := Scf.iv c0_i32 c1_i32 k0_t1
  let c512_i32 : BitVec 32 := 512#32
  let v3 : BitVec 32 := Scalar.muli arg5 c512_i32
  let v4 : BitVec 32 := v3
  let v66 : Index := Scalar.indexCast v4
  let c0_18 : Index := 0#32
  ![0, 0, v66.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x16384x8320 : Shape := ⟨3, ![2, 16384, 8320]⟩
abbrev S5x3072 : Shape := ⟨2, ![5, 3072]⟩
abbrev S2x16384x3072 : Shape := ⟨3, ![2, 16384, 3072]⟩
abbrev S_ : Shape := ⟨0, ![]⟩
abbrev S2x16388x3072 : Shape := ⟨3, ![2, 16388, 3072]⟩
abbrev S1x3072 : Shape := ⟨2, ![1, 3072]⟩
abbrev S3072 : Shape := ⟨1, ![3072]⟩
abbrev S1x1x3072 : Shape := ⟨3, ![1, 1, 3072]⟩
abbrev S2x16384x24x128 : Shape := ⟨4, ![2, 16384, 24, 128]⟩
abbrev S2x16384x16x128 : Shape := ⟨4, ![2, 16384, 16, 128]⟩
abbrev S2x16384x16 : Shape := ⟨3, ![2, 16384, 16]⟩
abbrev S2x16384x16x1 : Shape := ⟨4, ![2, 16384, 16, 1]⟩
abbrev S2x16384x8x128 : Shape := ⟨4, ![2, 16384, 8, 128]⟩
abbrev S2x24x16384x128 : Shape := ⟨4, ![2, 24, 16384, 128]⟩

abbrev nBuf : Space → Nat
  | .hbm => 69
  | .vmem => 0
  | .smem => 0
  | _ => 0

abbrev bufTy : (tb : Table) → Fin (tcTables nBuf tb) → BufTy
  | .hbm, ⟨0, _⟩ => ⟨S2x16384x8320, .bf16⟩
  | .hbm, ⟨1, _⟩ => ⟨S5x3072, .f32⟩
  | .hbm, ⟨2, _⟩ => ⟨S2x16384x3072, .bf16⟩
  | .hbm, ⟨3, _⟩ => ⟨S2x16384x3072, .f32⟩
  | .hbm, ⟨4, _⟩ => ⟨S_, .i32⟩
  | .hbm, ⟨5, _⟩ => ⟨S_, .f32⟩
  | .hbm, ⟨6, _⟩ => ⟨S2x16388x3072, .f32⟩
  | .hbm, ⟨7, _⟩ => ⟨S2x16384x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S2x16384x3072, .f32⟩
  | .hbm, ⟨12, _⟩ => ⟨S2x16384x3072, .f32⟩
  | .hbm, ⟨13, _⟩ => ⟨S_, .f32⟩
  | .hbm, ⟨14, _⟩ => ⟨S2x16384x3072, .f32⟩
  | .hbm, ⟨15, _⟩ => ⟨S2x16384x3072, .f32⟩
  | .hbm, ⟨16, _⟩ => ⟨S2x16384x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S2x16384x3072, .f32⟩
  | .hbm, ⟨21, _⟩ => ⟨S2x16384x3072, .f32⟩
  | .hbm, ⟨22, _⟩ => ⟨S2x16384x3072, .f32⟩
  | .hbm, ⟨23, _⟩ => ⟨S2x16384x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x16384x3072, .f32⟩
  | .hbm, ⟨28, _⟩ => ⟨S2x16384x3072, .f32⟩
  | .hbm, ⟨29, _⟩ => ⟨S2x16384x3072, .f32⟩
  | .hbm, ⟨30, _⟩ => ⟨S2x16384x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S2x16384x3072, .f32⟩
  | .hbm, ⟨35, _⟩ => ⟨S2x16384x3072, .f32⟩
  | .hbm, ⟨36, _⟩ => ⟨S2x16384x3072, .f32⟩
  | .hbm, ⟨37, _⟩ => ⟨S2x16384x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S2x16384x3072, .f32⟩
  | .hbm, ⟨42, _⟩ => ⟨S2x16384x3072, .f32⟩
  | .hbm, ⟨43, _⟩ => ⟨S2x16384x3072, .f32⟩
  | .hbm, ⟨44, _⟩ => ⟨S2x16384x3072, .f32⟩
  | .hbm, ⟨45, _⟩ => ⟨S2x16384x3072, .f32⟩
  | .hbm, ⟨46, _⟩ => ⟨S_, .f32⟩
  | .hbm, ⟨47, _⟩ => ⟨S2x16384x3072, .f32⟩
  | .hbm, ⟨48, _⟩ => ⟨S2x16384x3072, .f32⟩
  | .hbm, ⟨49, _⟩ => ⟨S_, .f32⟩
  | .hbm, ⟨50, _⟩ => ⟨S2x16384x3072, .f32⟩
  | .hbm, ⟨51, _⟩ => ⟨S2x16384x3072, .f32⟩
  | .hbm, ⟨52, _⟩ => ⟨S2x16384x3072, .f32⟩
  | .hbm, ⟨53, _⟩ => ⟨S2x16384x24x128, .f32⟩
  | .hbm, ⟨54, _⟩ => ⟨S2x16384x16x128, .f32⟩
  | .hbm, ⟨55, _⟩ => ⟨S2x16384x16x128, .f32⟩
  | .hbm, ⟨56, _⟩ => ⟨S_, .f32⟩
  | .hbm, ⟨57, _⟩ => ⟨S2x16384x16, .f32⟩
  | .hbm, ⟨58, _⟩ => ⟨S2x16384x16x1, .f32⟩
  | .hbm, ⟨59, _⟩ => ⟨S_, .f32⟩
  | .hbm, ⟨60, _⟩ => ⟨S2x16384x16x1, .f32⟩
  | .hbm, ⟨61, _⟩ => ⟨S2x16384x16x1, .f32⟩
  | .hbm, ⟨62, _⟩ => ⟨S2x16384x16x1, .f32⟩
  | .hbm, ⟨63, _⟩ => ⟨S2x16384x16x128, .f32⟩
  | .hbm, ⟨64, _⟩ => ⟨S2x16384x16x128, .f32⟩
  | .hbm, ⟨65, _⟩ => ⟨S2x16384x8x128, .f32⟩
  | .hbm, ⟨66, _⟩ => ⟨S2x16384x24x128, .f32⟩
  | .hbm, ⟨67, _⟩ => ⟨S2x24x16384x128, .f32⟩
  | .hbm, ⟨68, _⟩ => ⟨S2x24x16384x128, .bf16⟩
  | _, _ => ⟨S2x16384x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_0 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩

abbrev nD : Nat := 1
abbrev τ : Topo := Topo.v7x

variable {F : FTy → Type} [FloatOps F]
-- ==== Proof.MergeSpec.lean ====
/- What the merge computes, row by row: the cross-attention into the memory tokens, the gated sum of the
   three branches, the output projection with its residual, the norm and the retrieval queries. -/
module

public import Idealize.ShloMosaic.Lib.Pointwise

@[expose] public section

noncomputable section

namespace Cert.Merge

open Idealize.ShloMosaic

/-- The small number under the norms' square roots. -/
def eps : EReal := Ideal.ofBits .f32 0x358637BD#32

/-- The scale of the memory scores. -/
def scale : EReal := Ideal.ofBits .f32 0x3DB504F3#32

/-- The norm of `x` weighted by `g`, `c` being one over the length of `x`. -/
def normed {n : ℕ} (c : EReal) (x g : Fin n → EReal) (d : Fin n) : EReal :=
  x d * Ideal.rsqrt ((∑ k, x k * x k) * c + eps) * g d

/-- The scaled product of a query and a key. -/
def score {n : ℕ} (q k : Fin n → EReal) : EReal := (∑ d, q d * k d) * scale

/-- The softmax of the scores `s`. -/
def soft {n : ℕ} (s : Fin n → EReal) (j : Fin n) : EReal :=
  Ideal.div (Ideal.exp (s j - Finset.univ.sup s)) (∑ k, Ideal.exp (s k - Finset.univ.sup s))

/-- The rows one row of the result reads. -/
structure Row where
  /-- The residual. -/
  x : Fin 1024 → EReal
  /-- The first branch. -/
  og : Fin 1024 → EReal
  /-- The second branch. -/
  om : Fin 512 → EReal
  /-- The three branches' gates, before the logistic function. -/
  gate : Fin 3 → Fin 1024 → EReal
  /-- The memory queries, head after head. -/
  mq : Fin 512 → EReal
  /-- The memory tokens: their keys head after head, then their values head after head. -/
  mkv : Fin 256 → Fin 1024 → EReal

/-- The weights. -/
structure Weights where
  /-- The first branch's projection. -/
  wg : Fin 1024 → Fin 1024 → EReal
  /-- The second branch's projection. -/
  wm : Fin 512 → Fin 1024 → EReal
  /-- The memory branch's projection. -/
  we : Fin 512 → Fin 1024 → EReal
  /-- The output projection. -/
  wo : Fin 1024 → Fin 1024 → EReal
  /-- The retrieval projection. -/
  wq : Fin 1024 → Fin 2048 → EReal
  /-- The weights of the memory queries' norm. -/
  gq : Fin 128 → EReal
  /-- The weights of the memory keys' norm. -/
  gk : Fin 128 → EReal
  /-- The weights of the last norm. -/
  gf : Fin 1024 → EReal

variable (R : Row) (W : Weights)

/-- The memory scores of a head. -/
def scores (h : Fin 4) (j : Fin 256) : EReal :=
  score (normed (Ideal.ofBits .f32 0x3C000000#32) (fun d : Fin 128 => R.mq ⟨h * 128 + d, by omega⟩) W.gq)
    (normed (Ideal.ofBits .f32 0x3C000000#32) (fun d : Fin 128 => R.mkv j ⟨h * 128 + d, by omega⟩) W.gk)

/-- The memory branch of a head, before its projection. -/
def omem (h : Fin 4) (d : Fin 128) : EReal :=
  ∑ j : Fin 256, soft (scores R W h) j * R.mkv j ⟨512 + (h * 128 + d), by omega⟩

/-- The memory branch. -/
def ymem (f : Fin 1024) : EReal :=
  ∑ e : Fin 512, omem R W ⟨e / 128, by omega⟩ ⟨e % 128, by omega⟩ * W.we e f

/-- The first branch. -/
def ygdn (f : Fin 1024) : EReal := ∑ e : Fin 1024, R.og e * W.wg e f

/-- The second branch. -/
def ymla (f : Fin 1024) : EReal := ∑ e : Fin 512, R.om e * W.wm e f

/-- A gate. -/
def gated (k : Fin 3) (f : Fin 1024) : EReal := Ideal.div 1 (1 + Ideal.exp (-(R.gate k f)))

/-- The gated sum of the branches. -/
def merged (f : Fin 1024) : EReal := gated R 0 f * ygdn R W f + gated R 1 f * ymla R W f + gated R 2 f * ymem R W f

/-- The residual and the projected sum. -/
def x1 (j : Fin 1024) : EReal := R.x j + ∑ f : Fin 1024, merged R W f * W.wo f j

/-- Its norm. -/
def zn (j : Fin 1024) : EReal := normed (Ideal.ofBits .f32 0x3A800000#32) (x1 R W) W.gf j

/-- The retrieval queries. -/
def qq (k : Fin 2048) : EReal := ∑ j : Fin 1024, zn R W j * W.wq j k

end Cert.Merge

end
-- ==== Proof.ConvStep.lean ====
/- One trip of the short convolution's loop: what it writes, at a row and a lane. -/
module

public import proofs.«01_k».proof.Proof.MergeSpec
public import proofs.«01_k».proof.Proof.Gen.Kernel6Ideal.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Kernel6Ideal.Value

open Idealize.ShloMosaic Idealize.ShloMosaic.TcCoe Idealize.SL.Sem Cert.Merge Cert.Kernel6Ideal.Gen

/-- The value of a column at a position that may lie outside, shifted by two: there it is zero. -/
def padded (x : Fin 16384 → EReal) (n : ℕ) : EReal := if h : 2 ≤ n ∧ n < 16386 then x ⟨n - 2, by omega⟩ else 0

/-- The short convolution of a column. -/
def conv (x : Fin 16384 → EReal) (w : Fin 5 → EReal) (t : ℕ) : EReal :=
  w 2 * padded x (t + 2) + w 0 * padded x t + w 1 * padded x (t + 1) + w 3 * padded x (t + 3) + w 4 * padded x (t + 4)

/-- Its activation. -/
def act (x : Fin 16384 → EReal) (w : Fin 5 → EReal) (t : ℕ) : EReal := conv x w t * Ideal.logistic (conv x w t)

/-- The loop's trips. -/
theorem trip_lt (k : Fin k0_t1_loop.trips) : k.val < 32 := Nat.lt_of_lt_of_le k.isLt k0_t1_abs.2.1

/-- Whether a trip is not the first. -/
theorem not_first : ∀ k : Fin 32, Scalar.cmpi CmpIPredicate.sgt (Scf.iv 0#32 1#32 k.val) 0#32 = (if 0 < k.val then 1#1 else 0#1) := by
  decide +kernel

/-- Whether a trip is not the last. -/
theorem not_last : ∀ k : Fin 32, Scalar.cmpi CmpIPredicate.slt (Scf.iv 0#32 1#32 k.val) 31#32 = (if k.val < 31 then 1#1 else 0#1) := by
  decide +kernel

/-- The stretch of rows a trip reads: its own and its neighbours', zero outside. -/
theorem pay2_at (x : Fin 16384 → Fin 128 → EReal) (k : Fin k0_t1_loop.trips) (v6 : Vec Ideal S1x512x128 .bf16) (v17 v24 : Vec Ideal S1x16x128 .bf16)
    (h6 : ∀ (r : Fin 512) (l : Fin 128), v6 (ix3 0 r l) = x ⟨512 * k.val + r.val, by have := trip_lt k; omega⟩ l)
    (h17 : ∀ (r : Fin 16) (l : Fin 128), v17 (ix3 0 r l) = x ⟨512 * k.val - 16 + r.val, by have := trip_lt k; omega⟩ l)
    (h24 : ∀ (r : Fin 16) (l : Fin 128), v24 (ix3 0 r l) = x ⟨min (512 * k.val + 512) 16368 + r.val, by omega⟩ l)
    (e : Fin 544) (l : Fin 128) (he : 14 ≤ e.val) (he' : e.val < 530) :
    k0_pay2 (F := Ideal) 0#32 1#32 k v6 v17 v24 (ix2 e l) = padded (fun t => x t l) (512 * k.val + e.val - 14) := by
  have hk := trip_lt k
  pointwise [k0_pay2]
  rw [not_first ⟨k.val, hk⟩, not_last ⟨k.val, hk⟩]
  unfold padded
  dsimp only
  by_cases h1 : e.val < 16
  · rw [dif_pos h1]
    by_cases h0 : 0 < k.val
    · rw [if_pos h0, dif_pos (by omega)]
      refine (h17 _ _).trans ?_
      congr 1
      exact Fin.ext (by dsimp only; omega)
    · rw [if_neg h0, dif_neg (by omega)]
      rfl
  · rw [dif_neg h1]
    by_cases h2 : e.val - 16 < 512
    · rw [dif_pos h2, dif_pos (by omega)]
      refine (h6 _ _).trans ?_
      congr 1
      exact Fin.ext (by dsimp only; omega)
    · rw [dif_neg h2]
      by_cases h3 : k.val < 31
      · rw [if_pos h3, dif_pos (by omega)]
        refine (h24 _ _).trans ?_
        congr 1
        exact Fin.ext (by dsimp only; omega)
      · rw [if_neg h3, dif_neg (by omega)]
        rfl

/-- The first three terms of the convolution, at any row of the stretch. -/
theorem pay3_at (v1 : Vec Ideal S5x128 .f32) (k : Fin k0_t1_loop.trips) (v6 : Vec Ideal S1x512x128 .bf16) (v17 v24 : Vec Ideal S1x16x128 .bf16) (e : Fin 544) (l : Fin 128) :
    k0_pay3 (F := Ideal) v1 0#32 1#32 k v6 v17 v24 (ix2 e l)
      = v1 (ix2 2 l) * k0_pay2 (F := Ideal) 0#32 1#32 k v6 v17 v24 (ix2 e l)
        + v1 (ix2 0 l) * k0_pay2 (F := Ideal) 0#32 1#32 k v6 v17 v24 (ix2 ⟨(e.val + 544 - 2) % 544, by omega⟩ l)
        + v1 (ix2 1 l) * k0_pay2 (F := Ideal) 0#32 1#32 k v6 v17 v24 (ix2 ⟨(e.val + 544 - 1) % 544, by omega⟩ l) := by
  pointwise [k0_pay3]

/-- What one trip writes. -/
def tripOut (i : grid0.Coords) (v1 : Vec Ideal S5x128 .f32) (k : Fin k0_t1_loop.trips) (v6 : Vec Ideal S1x512x128 .bf16) (v17 v24 : Vec Ideal S1x16x128 .bf16) :
    FVec Ideal S1x1x512x128 .bf16 :=
  k0_pay1 (F := Ideal) i v1 (k0_pay2 0#32 1#32 k v6 v17 v24) (k0_pay3 v1 0#32 1#32 k v6 v17 v24) (k0_pay4 v1) 543#32

/-- The stretch's convolution as one trip computes it. -/
def stretch (v1 : Vec Ideal S5x128 .f32) (p p3 : FVec Ideal S544x128 .f32) (r : Fin 512) (l : Fin 128) : EReal :=
  p3 (ix2 ⟨16 + r.val, by omega⟩ l) + k0_pay4 (F := Ideal) v1 (ix2 0 l) * p (ix2 ⟨(16 + r.val + 544 - 543) % 544, by omega⟩ l)
    + v1 (ix2 4 l) * p (ix2 ⟨(16 + r.val + 544 - 542) % 544, by omega⟩ l)

/-- It is the convolution. -/
theorem stretch_eq (x : Fin 16384 → Fin 128 → EReal) (v1 : Vec Ideal S5x128 .f32) (k : Fin k0_t1_loop.trips) (v6 : Vec Ideal S1x512x128 .bf16) (v17 v24 : Vec Ideal S1x16x128 .bf16)
    (h6 : ∀ (r : Fin 512) (l : Fin 128), v6 (ix3 0 r l) = x ⟨512 * k.val + r.val, by have := trip_lt k; omega⟩ l)
    (h17 : ∀ (r : Fin 16) (l : Fin 128), v17 (ix3 0 r l) = x ⟨512 * k.val - 16 + r.val, by have := trip_lt k; omega⟩ l)
    (h24 : ∀ (r : Fin 16) (l : Fin 128), v24 (ix3 0 r l) = x ⟨min (512 * k.val + 512) 16368 + r.val, by omega⟩ l)
    (r : Fin 512) (l : Fin 128) :
    stretch v1 (k0_pay2 0#32 1#32 k v6 v17 v24) (k0_pay3 v1 0#32 1#32 k v6 v17 v24) r l
      = conv (fun t => x t l) (fun j => v1 (ix2 j l)) (512 * k.val + r.val) := by
  have key : ∀ (e : Fin 544) (n : ℕ), 14 ≤ e.val → e.val < 530 → 512 * k.val + e.val - 14 = n →
      k0_pay2 (F := Ideal) 0#32 1#32 k v6 v17 v24 (ix2 e l) = padded (fun t => x t l) n := fun e n h h' hn => by
    rw [pay2_at x k v6 v17 v24 h6 h17 h24 e l h h', hn]
  have h4 : k0_pay4 (F := Ideal) v1 (ix2 0 l) = v1 (ix2 3 l) := by pointwise [k0_pay4]
  unfold stretch conv
  rw [pay3_at, h4, key _ (512 * k.val + r.val + 2) (by dsimp only; omega) (by dsimp only; omega) (by dsimp only; omega),
    key _ (512 * k.val + r.val) (by dsimp only; omega) (by dsimp only; omega) (by dsimp only; omega),
    key _ (512 * k.val + r.val + 1) (by dsimp only; omega) (by dsimp only; omega) (by dsimp only; omega),
    key _ (512 * k.val + r.val + 3) (by dsimp only; omega) (by dsimp only; omega) (by dsimp only; omega),
    key _ (512 * k.val + r.val + 4) (by dsimp only; omega) (by dsimp only; omega) (by dsimp only; omega)]

/-- Whether a block's head is one of the queries or the keys. -/
theorem is_qk : ∀ i : Fin 24, Scalar.cmpi CmpIPredicate.slt (BitVec.ofNat 32 i.val) 16#32 = (if i.val < 16 then 1#1 else 0#1) := by
  decide +kernel

/-- A head's row: the activation, of unit length in the queries and the keys. -/
def headRow (qk : Prop) [Decidable qk] (x : Fin 16384 → Fin 128 → EReal) (w : Fin 5 → Fin 128 → EReal) (t : ℕ) (l : Fin 128) : EReal :=
  if qk then act (fun t => x t l) (fun j => w j l) t
      * Ideal.rsqrt ((∑ d : Fin 128, act (fun t => x t d) (fun j => w j d) t * act (fun t => x t d) (fun j => w j d) t) + eps)
  else act (fun t => x t l) (fun j => w j l) t

/-- What one trip writes, at a row and a lane. -/
theorem tripOut_at (x : Fin 16384 → Fin 128 → EReal) (i : grid0.Coords) (v1 : Vec Ideal S5x128 .f32) (k : Fin k0_t1_loop.trips) (v6 : Vec Ideal S1x512x128 .bf16) (v17 v24 : Vec Ideal S1x16x128 .bf16)
    (h6 : ∀ (r : Fin 512) (l : Fin 128), v6 (ix3 0 r l) = x ⟨512 * k.val + r.val, by have := trip_lt k; omega⟩ l)
    (h17 : ∀ (r : Fin 16) (l : Fin 128), v17 (ix3 0 r l) = x ⟨512 * k.val - 16 + r.val, by have := trip_lt k; omega⟩ l)
    (h24 : ∀ (r : Fin 16) (l : Fin 128), v24 (ix3 0 r l) = x ⟨min (512 * k.val + 512) 16368 + r.val, by omega⟩ l)
    (r : Fin 512) (l : Fin 128) :
    tripOut i v1 k v6 v17 v24 (ix4 0 0 r l) = headRow ((i 1).val < 16) x (fun j l => v1 (ix2 j l)) (512 * k.val + r.val) l := by
  unfold headRow act eps
  simp only [← stretch_eq x v1 k v6 v17 v24 h6 h17 h24]
  unfold stretch
  pointwise [tripOut, k0_pay1]
  rw [is_qk (i 1)]
  by_cases h : (i 1).val < 16
  · rw [if_pos h, if_pos h]
    rfl
  · rw [if_neg h, if_neg h]
    rfl

variable (c : Dev nD) (bd : Option Variants.none.V) (i : grid0.Coords) (arg2 : Memref sig .tc .vmem S1x16384x128 .bf16) (harg2 : arg2.IsWhole)
  (arg3 : Memref sig .tc .vmem S5x128 .f32) (harg3 : arg3.IsWhole) (arg4 : Memref sig .tc .vmem S1x1x16384x128 .bf16) (harg4 : arg4.IsWhole)

/-- A load of the block's rows. -/
abbrev rows (X : BufTy.Contents (Elt Ideal) arg2.view.ty) {n : ℕ} (off : Fin 3 → ℕ) (h : ∀ a, off a + (![1, n, 128] : Fin 3 → ℕ) a ≤ S1x16384x128.size a) :
    Vec Ideal ⟨3, ![1, n, 128]⟩ .bf16 :=
  View.readAt (Elt Ideal) arg2.view (Rect.unit (s := S1x16384x128) off ![1, n, 128] h).toLoadRect X

/-- The one piece a trip writes. -/
theorem trip_piece (v1 : Vec Ideal S5x128 .f32) (X : BufTy.Contents (Elt Ideal) arg2.view.ty) (k : Fin k0_t1_loop.trips) :
    tripL_k0_t1 (F := Ideal) Variants.none c bd i arg2 harg2 arg3 harg3 arg4 harg4 v1 X k
      = [⟨Rect.unit (s := S1x1x16384x128) (k0_off4 k) S1x1x512x128.size (k0_off4_inb k),
          tripOut i v1 k (rows arg2 X (k0_off1 k) (k0_off1_inb k)) (rows arg2 X (k0_off2 k) (k0_off2_inb k)) (rows arg2 X (k0_off3 k) (k0_off3_inb k))⟩] := by
  unfold tripL_k0_t1 trip_k0_t1
  rfl

/-- The pieces of the trips before `n` are pieces of some trip before `n`. -/
theorem pieces_of (v1 : Vec Ideal S5x128 .f32) (X : BufTy.Contents (Elt Ideal) arg2.view.ty) (P : View.Piece (Elt Ideal) S1x1x16384x128 .bf16 → Prop)
    (hP : ∀ k, ∀ p ∈ tripL_k0_t1 (F := Ideal) Variants.none c bd i arg2 harg2 arg3 harg3 arg4 harg4 v1 X k, P p) :
    ∀ n, n ≤ k0_t1_loop.trips → ∀ p ∈ pb_k0_t1 (F := Ideal) Variants.none c bd i arg2 harg2 arg3 harg3 arg4 harg4 v1 X n, P p
  | 0, _, p, h => absurd h List.not_mem_nil
  | n + 1, hn, p, h => by
    rw [pb_k0_t1_succ (F := Ideal) Variants.none c bd i arg2 harg2 arg3 harg3 arg4 harg4 v1 X ⟨n, hn⟩] at h
    rcases List.mem_append.mp h with h | h
    · exact hP _ p h
    · exact pieces_of v1 X P hP n (Nat.le_of_succ_le hn) p h

variable (x0 : Vec Ideal S1x16384x128 .bf16) (x1 : Vec Ideal S5x128 .f32)

/-- What a grid point writes, of its blocks. -/
def blockOut : Vec Ideal S1x1x16384x128 .bf16 := fun y =>
  headRow ((i 1).val < 16) (fun t l => x0 (ix3 0 t l)) (fun j l => x1 (ix2 j l)) (y 2).val (y 3)

/-- The weights as the kernel loads them. -/
theorem load_weights : View.readAt (Elt Ideal) arg3.view (Rect.unit (s := S5x128) ![0, 0] ![5, 128] inb_S5x128_S5x128_0_0).toLoadRect (harg3.unread x1) = x1 := by
  funext y
  refine (harg3.readAt_unread x1 _ y).trans (congrArg x1 (funext fun a => Fin.ext ?_))
  show (![0, 0] : Fin 2 → ℕ) a + 1 * (y a).val = _
  match a with
  | 0 => show 0 + 1 * (y 0).val = (y 0).val; omega
  | 1 => show 0 + 1 * (y 1).val = (y 1).val; omega

/-- A load of the block's rows, at a row and a lane. -/
theorem rows_at {n : ℕ} (off : Fin 3 → ℕ) (o : ℕ) (h : ∀ a, off a + (![1, n, 128] : Fin 3 → ℕ) a ≤ S1x16384x128.size a) (ho : off = ![0, o, 0])
    (r : Fin n) (l : Fin 128) (hr : o + r.val < 16384) :
    rows arg2 (harg2.unread x0) off h (ix3 0 r l) = x0 (ix3 0 ⟨o + r.val, hr⟩ l) := by
  subst ho
  refine (harg2.readAt_unread x0 _ _).trans (congrArg x0 (funext fun a => Fin.ext ?_))
  match a with
  | 0 => rfl
  | 1 => show o + 1 * r.val = o + r.val; omega
  | 2 => show 0 + 1 * l.val = l.val; omega

/-- Where a trip's rows before its own begin. -/
theorem off2_eq : ∀ k : Fin k0_t1_loop.trips, k0_off2 k = ![0, 512 * k.val - 16, 0] := by decide +kernel

/-- A trip's piece agrees with the block's result. -/
theorem piece_eq (k : Fin k0_t1_loop.trips) :
    ∀ p ∈ tripL_k0_t1 (F := Ideal) Variants.none c bd i arg2 harg2 arg3 harg3 arg4 harg4 x1 (harg2.unread x0) k,
      ∀ x : p.1.shape.Idx, p.2 x = blockOut i x0 x1 (p.1.emb x) := by
  rw [trip_piece]
  intro p hp
  obtain rfl := List.mem_singleton.mp hp
  intro x
  obtain ⟨r, l, rfl⟩ : ∃ (r : Fin 512) (l : Fin 128), x = (ix4 0 0 r l : S1x1x512x128.Idx) := by
    refine ⟨x 2, x 3, (eq_ix4 x).trans ?_⟩
    rw [show x 0 = (0 : Fin 1) from Subsingleton.elim (α := Fin 1) _ _, show x 1 = (0 : Fin 1) from Subsingleton.elim (α := Fin 1) _ _]
  dsimp only
  refine (tripOut_at (fun t l => x0 (ix3 0 t l)) i x1 k _ _ _ ?_ ?_ ?_ r l).trans ?_
  · exact fun r l => rows_at arg2 harg2 x0 _ _ _ (k0_off1_eq k) r l _
  · exact fun r l => rows_at arg2 harg2 x0 _ _ _ (off2_eq k) r l _
  · exact fun r l => rows_at arg2 harg2 x0 _ _ _ (k0_off3_eq k) r l _
  · have h4 := k0_off4_eq k
    have h2 : ((Rect.unit (s := S1x1x16384x128) (k0_off4 k) S1x1x512x128.size (k0_off4_inb k)).emb (ix4 0 0 r l) 2).val = 512 * k.val + r.val := by
      show k0_off4 k 2 + 1 * r.val = _
      rw [h4]
      show 512 * k.val + 1 * r.val = _
      omega
    have h3 : (Rect.unit (s := S1x1x16384x128) (k0_off4 k) S1x1x512x128.size (k0_off4_inb k)).emb (ix4 0 0 r l) 3 = l := by
      refine Fin.ext ?_
      show k0_off4 k 3 + 1 * l.val = _
      rw [h4]
      show 0 + 1 * l.val = _
      omega
    unfold blockOut
    exact (congrArg₂ (headRow _ _ _) h2 h3).symm

/-- A grid point's pieces hold its result. -/
theorem out_eq : out0_A_2 (F := Ideal) c i arg2 harg2 arg3 harg3 arg4 harg4 x0 x1 = blockOut i x0 x1 := by
  unfold out0_A_2
  funext y
  refine View.read_writes_apply_of_pieces VO0_2 _ (blockOut i x0 x1) _ ?_ y (cover0_A_2 c i arg2 harg2 arg3 harg3 arg4 harg4 x0 x1 y)
  show ∀ p ∈ pb_k0_t1 (F := Ideal) Variants.none c none i arg2 harg2 arg3 harg3 arg4 harg4
      (View.readAt (Elt Ideal) arg3.view (Rect.unit (s := S5x128) ![0, 0] ![5, 128] inb_S5x128_S5x128_0_0).toLoadRect (harg3.unread x1)) (harg2.unread x0)
      k0_t1_loop.trips, _
  rw [load_weights]
  exact pieces_of c none i arg2 harg2 arg3 harg3 arg4 harg4 x1 _ _ (piece_eq c none i arg2 harg2 arg3 harg3 arg4 harg4 x0 x1) _ le_rfl

end Cert.Kernel6Ideal.Value

end
-- ==== Proof.OnlineSoftmax.lean ====
/- Softmax in blocks of keys, over the extended reals: the running maximum, the running sum of
   exponentials and the running weighted sum of the values, how a further block of keys updates them,
   and that the quotient at the end is the softmax-weighted sum of the values. -/
module

public import Idealize.ShloMosaic.PureOps.Ideal

@[expose] public section

noncomputable section

namespace Cert.Softmax

open Idealize.ShloMosaic Finset

/-- The largest of the first `n` scores (`⊥` when there is none). -/
def top (s : ℕ → EReal) (n : ℕ) : EReal := (range n).sup s

/-- The sum of the exponentials of the first `n` scores, each less the largest of them. -/
def mass (s : ℕ → EReal) (n : ℕ) : EReal := ∑ k ∈ range n, Ideal.exp (s k - top s n)

/-- The first `n` values, weighted by those exponentials and added. -/
def weighted (s v : ℕ → EReal) (n : ℕ) : EReal := ∑ k ∈ range n, Ideal.exp (s k - top s n) * v k

/-- No score: the largest is `⊥`. -/
theorem top_zero (s : ℕ → EReal) : top s 0 = ⊥ := rfl

/-- No score: the sum of exponentials is zero. -/
theorem mass_zero (s : ℕ → EReal) : mass s 0 = 0 := rfl

/-- No score: the weighted sum is zero. -/
theorem weighted_zero (s v : ℕ → EReal) : weighted s v 0 = 0 := rfl

/-- The largest of at least one real scores is real. -/
theorem top_real {s : ℕ → EReal} {n : ℕ} (hn : 0 < n) (hs : ∀ k < n, ∃ r : ℝ, s k = r) :
    ∃ r : ℝ, top s n = r := by
  obtain ⟨k, hk, e⟩ := exists_mem_eq_sup (range n) ⟨0, mem_range.2 hn⟩ s
  obtain ⟨r, hr⟩ := hs k (mem_range.1 hk)
  exact ⟨r, e.trans hr⟩

/-- A further block of `T` scores: the largest is the larger of the old one and the block's. -/
theorem top_add (s : ℕ → EReal) (n T : ℕ) :
    top s (n + T) = max (top s n) (univ.sup fun k : Fin T => s (n + k)) := by
  unfold top
  apply le_antisymm
  · refine Finset.sup_le fun k hk => ?_
    rcases Nat.lt_or_ge k n with h | h
    · exact le_max_of_le_left (Finset.le_sup (f := s) (mem_range.2 h))
    · have hk' : k - n < T := by have := mem_range.1 hk; omega
      have := Finset.le_sup (f := fun k : Fin T => s (n + k)) (mem_univ (⟨k - n, hk'⟩ : Fin T))
      refine le_max_of_le_right (le_trans (le_of_eq ?_) this)
      show s k = s (n + (k - n))
      congr 1; omega
  · refine max_le (Finset.sup_mono (range_mono (Nat.le_add_right n T))) (Finset.sup_le fun k _ => ?_)
    exact Finset.le_sup (f := s) (mem_range.2 (Nat.add_lt_add_left k.2 n))

/-- A positive real factor goes inside a finite sum of extended reals. -/
theorem coe_mul_sum {ι : Type*} (t : Finset ι) (f : ι → EReal) {a : ℝ} (ha : 0 ≤ a) :
    (a : EReal) * ∑ i ∈ t, f i = ∑ i ∈ t, (a : EReal) * f i := by
  classical
  induction t using Finset.induction_on with
  | empty => simp
  | insert i t hi ih =>
    rw [sum_insert hi, sum_insert hi, ← ih]
    exact EReal.left_distrib_of_nonneg_of_ne_top (EReal.coe_nonneg.2 ha) (EReal.coe_ne_top a) _ _

/-- The sum of reals, as an extended real. -/
theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [sum_insert hi, sum_insert hi, EReal.coe_add, ih]

/-- Changing the subtracted maximum: `exp (m - m') · exp (x - m) = exp (x - m')` for reals. -/
theorem exp_shift {x m m' : EReal} (hx : ∃ r : ℝ, x = r) (hm : ∃ r : ℝ, m = r) (hm' : ∃ r : ℝ, m' = r) :
    Ideal.exp (m - m') * Ideal.exp (x - m) = Ideal.exp (x - m') := by
  obtain ⟨x, rfl⟩ := hx; obtain ⟨m, rfl⟩ := hm; obtain ⟨m', rfl⟩ := hm'
  rw [← EReal.coe_sub, ← EReal.coe_sub, ← EReal.coe_sub, Ideal.exp_coe, Ideal.exp_coe, Ideal.exp_coe, ← EReal.coe_mul,
    ← Real.exp_add]
  congr 2; ring

/-- The rescaling of a weighted sum when a further block of `T` scores arrives; with no earlier score both sides are zero. -/
theorem rescale {s : ℕ → EReal} (v : ℕ → EReal) {n T : ℕ} (hT : 0 < T) (hs : ∀ k < n + T, ∃ r : ℝ, s k = r) :
    Ideal.exp (top s n - top s (n + T)) * weighted s v n = ∑ k ∈ range n, Ideal.exp (s k - top s (n + T)) * v k := by
  rcases Nat.eq_zero_or_pos n with rfl | hn
  · simp [weighted]
  · have h1 := top_real (n := n) hn fun k hk => hs k (by omega)
    have h2 := top_real (n := n + T) (by omega) hs
    obtain ⟨a, ha⟩ := h1; obtain ⟨b, hb⟩ := h2
    have e : Ideal.exp (top s n - top s (n + T)) = ((Real.exp (a - b) : ℝ) : EReal) := by
      rw [ha, hb, ← EReal.coe_sub, Ideal.exp_coe]
    rw [weighted, e, coe_mul_sum _ _ (Real.exp_pos _).le]
    refine sum_congr rfl fun k hk => ?_
    rw [← mul_assoc, ← e, exp_shift (hs k (by have := mem_range.1 hk; omega)) ⟨a, ha⟩ ⟨b, hb⟩]

/-- A further block of `T` scores: the weighted sum is the old one, rescaled, and the block's. -/
theorem weighted_add {s : ℕ → EReal} (v : ℕ → EReal) {n T : ℕ} (hT : 0 < T) (hs : ∀ k < n + T, ∃ r : ℝ, s k = r) :
    weighted s v (n + T) = Ideal.exp (top s n - top s (n + T)) * weighted s v n
      + ∑ k : Fin T, Ideal.exp (s (n + k) - top s (n + T)) * v (n + k) := by
  rw [rescale v hT hs, weighted, sum_range_add, ← Fin.sum_univ_eq_sum_range (fun k => Ideal.exp (s (n + k) - top s (n + T)) * v (n + k))]

/-- The sum of exponentials is the weighted sum of ones. -/
theorem mass_eq (s : ℕ → EReal) (n : ℕ) : mass s n = weighted s (fun _ => 1) n := by
  simp only [mass, weighted, mul_one]

/-- A further block of `T` scores: the sum of exponentials is the old one, rescaled, and the block's. -/
theorem mass_add {s : ℕ → EReal} {n T : ℕ} (hT : 0 < T) (hs : ∀ k < n + T, ∃ r : ℝ, s k = r) :
    mass s (n + T) = Ideal.exp (top s n - top s (n + T)) * mass s n
      + ∑ k : Fin T, Ideal.exp (s (n + k) - top s (n + T)) := by
  rw [mass_eq, mass_eq, weighted_add _ hT hs]
  simp only [mul_one]

/-- The sum of the exponentials of at least one real scores is a positive real. -/
theorem mass_real {s : ℕ → EReal} {n : ℕ} (hn : 0 < n) (hs : ∀ k < n, ∃ r : ℝ, s k = r) :
    ∃ r : ℝ, 0 < r ∧ mass s n = r := by
  obtain ⟨b, hb⟩ := top_real hn hs
  have key : ∀ k ∈ range n, Ideal.exp (s k - top s n) = ((Real.exp ((s k).toReal - b) : ℝ) : EReal) := by
    intro k hk
    obtain ⟨r, hr⟩ := hs k (mem_range.1 hk)
    rw [hr, hb, ← EReal.coe_sub, Ideal.exp_coe, EReal.toReal_coe]
  refine ⟨∑ k ∈ range n, Real.exp ((s k).toReal - b), sum_pos (fun k _ => Real.exp_pos _) ⟨0, mem_range.2 hn⟩, ?_⟩
  rw [mass, sum_congr rfl key, coe_sum]

/-- The quotient of the two running sums is the sum of the values weighted by the normalized exponentials. -/
theorem quotient {s : ℕ → EReal} (v : ℕ → EReal) {n : ℕ} (hn : 0 < n) (hs : ∀ k < n, ∃ r : ℝ, s k = r) :
    Ideal.div (weighted s v n) (mass s n) = ∑ k ∈ range n, v k * Ideal.div (Ideal.exp (s k - top s n)) (mass s n) := by
  obtain ⟨l, hl, e⟩ := mass_real hn hs
  rw [e, Ideal.div_coe hl.ne', mul_comm, weighted, coe_mul_sum _ _ (by positivity)]
  refine sum_congr rfl fun k _ => ?_
  rw [Ideal.div_coe hl.ne', mul_comm (v k), mul_left_comm, mul_assoc, mul_left_comm, mul_comm]

end Cert.Softmax

end
-- ==== Proof.Ref.lean ====
/- What the reference computes: at an index, the values weighted by the softmax of the scores of the
   index's query and head. -/
module

public import proofs.«01_k».proof.Proof.OnlineSoftmax
public import proofs.«01_k».proof.Proof.Gen.ReferenceIdeal.Run
public import Idealize.ShloMosaic.Lib.Pipeline.ValueKit

@[expose] public section

set_option maxRecDepth 16384

noncomputable section

namespace Cert.ReferenceIdeal.Value

open Idealize.ShloMosaic Idealize.ShloMosaic.TcCoe Idealize.SL.Sem Cert.Softmax Cert.ReferenceIdeal Cert.ReferenceIdeal.Gen

/-- The reference's scores: every query against every key. -/
def SCORES (Q K : FVec Ideal S2x8x16384x128 .bf16) : FVec Ideal S2x8x16384x16384 .f32 :=
  Host.dotGeneral dot_S2x8x16384x128_S2x8x16384x128_S2x8x16384x16384_3_3_2_2_01_01 none (extf .f32 Q bitsLt_bf16_f32) (extf .f32 K bitsLt_bf16_f32)

/-- The reference's largest score of each query. -/
def LARGEST (S : FVec Ideal S2x8x16384x16384 .f32) : FVec Ideal S2x8x16384 .f32 :=
  maximumf (broadcastInDim S2x8x16384 ![] bcast_S_S2x8x16384 (constant S_ .f32 0xFF800000#32))
    (Host.reduce FloatOps.maximumf S (constant S_ .f32 0xFF800000#32) reducesTo_S2x8x16384x16384_S2x8x16384_d3 h_S_)

/-- A number per query, repeated for every key. -/
def SPREAD (M : FVec Ideal S2x8x16384 .f32) : FVec Ideal S2x8x16384x16384 .f32 :=
  broadcastInDim S2x8x16384x16384 ![0, 1, 2, 3] bcast_S2x8x16384x1_S2x8x16384x16384_0_1_2_3
    (broadcastInDim S2x8x16384x1 ![0, 1, 2] bcast_S2x8x16384_S2x8x16384x1_0_1_2 M)

/-- The reference's exponentials of the scores, each less the largest. -/
def POWERS (S : FVec Ideal S2x8x16384x16384 .f32) : FVec Ideal S2x8x16384x16384 .f32 :=
  Host.exp (subf S (SPREAD (LARGEST S)))

/-- The reference's weights: the exponentials divided by their sum. -/
def WEIGHTS (E : FVec Ideal S2x8x16384x16384 .f32) : FVec Ideal S2x8x16384x16384 .f32 :=
  Host.divf E (SPREAD (Host.reduceAdd E (constant S_ .f32 0x00000000#32) reducesTo_S2x8x16384x16384_S2x8x16384_d3 h_S_))

/-- The reference's weighted sum of the values, laid out as its result. -/
def MIXED (W : FVec Ideal S2x8x16384x16384 .f32) (V : FVec Ideal S2x16384x512 .bf16) : FVec Ideal S2x16384x512 .bf16 :=
  truncf .bf16 (shapeCast _ (transpose S2x16384x8x64 [0, 3, 1, 2] (Host.dotGeneral dot_S2x16384x8x64_S2x8x16384x16384_S2x8x64x16384_1_3_3_2_02_01 none (shapeCast _ (extf .f32 V bitsLt_bf16_f32) shapeCasts_S2x16384x512_S2x16384x8x64) W) transposes_S2x8x64x16384_S2x16384x8x64_0_3_1_2) shapeCasts_S2x16384x8x64_S2x16384x512) bitsLt_bf16_f32

/-- The reference's result. -/
def REF (Q K : FVec Ideal S2x8x16384x128 .bf16) (V : FVec Ideal S2x16384x512 .bf16) : FVec Ideal S2x16384x512 .bf16 :=
  MIXED (WEIGHTS (POWERS (SCORES Q K))) V

/-- The reference's run: it ends with that result and its arguments as they were. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v19)
          = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold REF MIXED WEIGHTS POWERS SPREAD LARGEST SCORES
  exact run m g

/-- A score is the sum over the components of a query and a key. -/
theorem scores_at (Q K : FVec Ideal S2x8x16384x128 .bf16) (b : Fin 2) (h : Fin 8) (i k : Fin 16384) :
    SCORES Q K (ix4 b h i k) = ∑ d : Fin 128, Q (ix4 b h i d) * K (ix4 b h k d) := by
  pointwise [SCORES]

/-- The word of minus infinity. -/
theorem ofBits_negInf : Ideal.ofBits .f32 0xFF800000#32 = (⊥ : EReal) := by
  simp [Ideal.ofBits, Ideal.ieee]

/-- The largest entry over the last axis of an array of any extents, from `⊥`. -/
theorem reduce_last {a b c n : ℕ} {u : Shape} (S : FVec Ideal (⟨4, ![a, b, c, n]⟩ : Shape) .f32) (init : FVec Ideal u .f32)
    (h' : (⟨4, ![a, b, c, n]⟩ : Shape).ReducesTo [3] ⟨3, ![a, b, c]⟩) (g : (⟨4, ![a, b, c, n]⟩ : Shape).Reduces [3] ⟨3, ![a, b, c]⟩)
    (hu : 0 < u.numel) (hi : init (Shape.Idx.first hu) = (⊥ : EReal)) (x : Fin a) (y : Fin b) (z : Fin c) :
    Host.reduce FloatOps.maximumf S init h' hu (ix3 x y z) = (Finset.univ.sup fun k : Fin n => S (ix4 x y z k) : EReal) := by
  rw [Host.reduce_eq_fold_single FloatOps.maximumf S init h' g hu, hi]
  show Finset.fold max (⊥ : EReal) _ _ = Finset.fold max (⊥ : EReal) _ _
  congr 1
  funext k
  show S (g.lift (ix3 x y z) k) = S (ix4 x y z k)
  congr 1
  funext e
  apply Fin.ext
  match e with
  | ⟨0, _⟩ => simp [Shape.Reduces.lift_val, Shape.Reduces.liftVal]
  | ⟨1, _⟩ => simp [Shape.Reduces.lift_val, Shape.Reduces.liftVal]
  | ⟨2, _⟩ => simp [Shape.Reduces.lift_val, Shape.Reduces.liftVal]
  | ⟨3, _⟩ => simp [Shape.Reduces.lift_val, Shape.Reduces.liftVal]

/-- The larger of minus infinity and that is that. -/
theorem largest_last {a b c n : ℕ} (S : FVec Ideal (⟨4, ![a, b, c, n]⟩ : Shape) .f32) (hb : S_.BroadcastsInDim ⟨3, ![a, b, c]⟩ ![])
    (h' : (⟨4, ![a, b, c, n]⟩ : Shape).ReducesTo [3] ⟨3, ![a, b, c]⟩) (g : (⟨4, ![a, b, c, n]⟩ : Shape).Reduces [3] ⟨3, ![a, b, c]⟩)
    (hu : 0 < S_.numel) (x : Fin a) (y : Fin b) (z : Fin c) :
    maximumf (broadcastInDim ⟨3, ![a, b, c]⟩ ![] hb (constant S_ .f32 0xFF800000#32))
      (Host.reduce FloatOps.maximumf S (constant S_ .f32 0xFF800000#32) h' hu) (ix3 x y z)
      = (Finset.univ.sup fun k : Fin n => S (ix4 x y z k) : EReal) := by
  have e := reduce_last S (constant S_ .f32 0xFF800000#32) h' g hu ofBits_negInf x y z
  show max (Ideal.ofBits .f32 0xFF800000#32) (Host.reduce FloatOps.maximumf S (constant S_ .f32 0xFF800000#32) h' hu (ix3 x y z)) = _
  rw [e, ofBits_negInf]
  exact max_eq_right bot_le

/-- The largest score of a query is the supremum over the keys. -/
theorem largest_at (S : FVec Ideal S2x8x16384x16384 .f32) (b : Fin 2) (h : Fin 8) (i : Fin 16384) :
    LARGEST S (ix3 b h i) = (Finset.univ.sup fun k : Fin 16384 => S (ix4 b h i k) : EReal) := by
  unfold LARGEST
  exact largest_last S bcast_S_S2x8x16384 reducesTo_S2x8x16384x16384_S2x8x16384_d3 (by decide) h_S_ b h i

/-- A number per query is the same for every key. -/
theorem spread_at (M : FVec Ideal S2x8x16384 .f32) (b : Fin 2) (h : Fin 8) (i k : Fin 16384) :
    SPREAD M (ix4 b h i k) = M (ix3 b h i) := by
  pointwise [SPREAD]

/-- The exponential of a score less the largest. -/
theorem powers_at (S : FVec Ideal S2x8x16384x16384 .f32) (b : Fin 2) (h : Fin 8) (i k : Fin 16384) :
    POWERS S (ix4 b h i k) = Ideal.exp (S (ix4 b h i k) - LARGEST S (ix3 b h i)) := by
  pointwise [POWERS, spread_at]

/-- A weight is the exponential divided by the sum of the query's exponentials. -/
theorem weights_at (E : FVec Ideal S2x8x16384x16384 .f32) (b : Fin 2) (h : Fin 8) (i k : Fin 16384) :
    WEIGHTS E (ix4 b h i k) = Ideal.div (E (ix4 b h i k)) (∑ k : Fin 16384, E (ix4 b h i k)) := by
  pointwise [WEIGHTS, spread_at]

/-- The result at a column: the values of the column against the weights of the column's head. -/
theorem mixed_at (W : FVec Ideal S2x8x16384x16384 .f32) (V : FVec Ideal S2x16384x512 .bf16) (b : Fin 2) (i : Fin 16384) (e : Fin 512)
    (h : Fin 8) (he : (h : ℕ) = (e : ℕ) / 64) :
    MIXED W V (ix3 b i e) = ∑ k : Fin 16384, V (ix3 b k e) * W (ix4 b h i k) := by
  have hh : h = ⟨(e : ℕ) / 64, by omega⟩ := Fin.ext he
  pointwise [MIXED]
  rw [hh]

end Cert.ReferenceIdeal.Value

end
-- ==== Proof.MergeRef.lean ====
/- What the merge's reference computes: its three results, read at an index, are the merge of the index's
   row. -/
module

public import proofs.«01_k».proof.Proof.Ref
public import proofs.«01_k».proof.Proof.MergeSpec
public import proofs.«01_k».proof.Proof.Gen.Reference3Ideal.Run

@[expose] public section

set_option maxRecDepth 16384

noncomputable section

namespace Cert.Reference3Ideal.Value

open Idealize.ShloMosaic Idealize.ShloMosaic.TcCoe Idealize.SL.Sem Cert.Merge Cert.Reference3Ideal Cert.Reference3Ideal.Gen

/-- The memory queries, head after head. -/
def QUERIES (p : FVec Ideal S2x16384x8320 .bf16) : FVec Ideal S2x16384x4x128 .f32 :=
  shapeCast _ (extf .f32 (extractStridedSlice S2x16384x512 ![0, 0, 7168] p slices_S2x16384x8320_S2x16384x512_0_0_7168) bitsLt_bf16_f32) shapeCasts_S2x16384x512_S2x16384x4x128

/-- The memory keys, head after head. -/
def KEYS (k : FVec Ideal S2x256x1024 .f32) : FVec Ideal S2x256x4x128 .f32 :=
  shapeCast _ (extractStridedSlice S2x256x512 ![0, 0, 0] k slices_S2x256x1024_S2x256x512_0_0_0) shapeCasts_S2x256x512_S2x256x4x128

/-- The memory values, head after head. -/
def VALUES (k : FVec Ideal S2x256x1024 .f32) : FVec Ideal S2x256x4x128 .f32 :=
  shapeCast _ (extractStridedSlice S2x256x512 ![0, 0, 512] k slices_S2x256x1024_S2x256x512_0_0_512) shapeCasts_S2x256x512_S2x256x4x128

/-- The queries' norms. -/
def NORMQ (X : FVec Ideal S2x16384x4x128 .f32) (g : FVec Ideal S1x128 .f32) : FVec Ideal S2x16384x4x128 .f32 :=
  mulf (mulf X (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf X X) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 (shapeCast _ g shapeCasts_S1x128_S128)))

/-- The keys' norms. -/
def NORMK (X : FVec Ideal S2x256x4x128 .f32) (g : FVec Ideal S1x128 .f32) : FVec Ideal S2x256x4x128 .f32 :=
  mulf (mulf X (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf X X) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 (shapeCast _ g shapeCasts_S1x128_S128)))

/-- The memory scores. -/
def SCORES (Q : FVec Ideal S2x16384x4x128 .f32) (K : FVec Ideal S2x256x4x128 .f32) : FVec Ideal S2x4x16384x256 .f32 :=
  mulf (Host.dotGeneral dot_S2x16384x4x128_S2x256x4x128_S2x4x16384x256_3_3_1_1_02_02 none Q K) (broadcastInDim S2x4x16384x256 ![] bcast_S_S2x4x16384x256 (constant S_ .f32 0x3DB504F3#32))

/-- The largest score of each query and head. -/
def LARGEST (S : FVec Ideal S2x4x16384x256 .f32) : FVec Ideal S2x4x16384 .f32 :=
  maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_)

/-- A number per query and head, repeated for every token. -/
def SPREAD (M : FVec Ideal S2x4x16384 .f32) : FVec Ideal S2x4x16384x256 .f32 :=
  broadcastInDim S2x4x16384x256 ![0, 1, 2, 3] bcast_S2x4x16384x1_S2x4x16384x256_0_1_2_3 (broadcastInDim S2x4x16384x1 ![0, 1, 2] bcast_S2x4x16384_S2x4x16384x1_0_1_2 M)

/-- The exponentials of the scores, each less the largest. -/
def POWERS (S : FVec Ideal S2x4x16384x256 .f32) : FVec Ideal S2x4x16384x256 .f32 := Host.exp (subf S (SPREAD (LARGEST S)))

/-- The weights: the exponentials divided by their sum. -/
def SOFT (E : FVec Ideal S2x4x16384x256 .f32) : FVec Ideal S2x4x16384x256 .f32 :=
  Host.divf E (SPREAD (Host.reduceAdd E (constant S_ .f32 0x00000000#32) reducesTo_S2x4x16384x256_S2x4x16384_d3 h_S_))

/-- The weighted values, the four heads side by side. -/
def MIXED (W : FVec Ideal S2x4x16384x256 .f32) (V : FVec Ideal S2x256x4x128 .f32) : FVec Ideal S2x16384x512 .f32 :=
  shapeCast _ (transpose S2x16384x4x128 [0, 3, 1, 2] (Host.dotGeneral dot_S2x256x4x128_S2x4x16384x256_S2x4x128x16384_1_3_3_2_02_01 none V W) transposes_S2x4x128x16384_S2x16384x4x128_0_3_1_2) shapeCasts_S2x16384x4x128_S2x16384x512

/-- A projection of 512 columns. -/
def PROJECT (X : FVec Ideal S2x16384x512 .f32) (w : FVec Ideal S512x1024 .bf16) : FVec Ideal S2x16384x1024 .f32 :=
  Host.dotGeneral dot_S2x16384x512_S512x1024_S2x16384x1024_2_0_01_1_n_n none X (extf .f32 w bitsLt_bf16_f32)

/-- A projection of 1024 columns. -/
def PROJECTW (X : FVec Ideal S2x16384x1024 .f32) (w : FVec Ideal S1024x1024 .bf16) : FVec Ideal S2x16384x1024 .f32 :=
  Host.dotGeneral dot_S2x16384x1024_S1024x1024_S2x16384x1024_2_0_01_1_n_n none X (extf .f32 w bitsLt_bf16_f32)

/-- The gates. -/
def GATES (p : FVec Ideal S2x16384x8320 .bf16) : FVec Ideal S2x16384x3x1024 .f32 :=
  shapeCast _ (Host.divf (broadcastInDim S2x16384x3072 ![] bcast_S_S2x16384x3072 (constant S_ .f32 0x3F800000#32)) (addf (broadcastInDim S2x16384x3072 ![] bcast_S_S2x16384x3072 (constant S_ .f32 0x3F800000#32)) (Host.exp (Host.negf (extf .f32 (extractStridedSlice S2x16384x3072 ![0, 0, 4096] p slices_S2x16384x8320_S2x16384x3072_0_0_4096) bitsLt_bf16_f32))))) shapeCasts_S2x16384x3072_S2x16384x3x1024

/-- The gated sum of three branches. -/
def GATED (G : FVec Ideal S2x16384x3x1024 .f32) (A B C : FVec Ideal S2x16384x1024 .f32) : FVec Ideal S2x16384x1024 .f32 :=
  addf (addf (mulf (shapeCast _ (extractStridedSlice S2x16384x1x1024 ![0, 0, 0, 0] G slices_S2x16384x3x1024_S2x16384x1x1024_0_0_0_0) shapeCasts_S2x16384x1x1024_S2x16384x1024) A) (mulf (shapeCast _ (extractStridedSlice S2x16384x1x1024 ![0, 0, 1, 0] G slices_S2x16384x3x1024_S2x16384x1x1024_0_0_1_0) shapeCasts_S2x16384x1x1024_S2x16384x1024) B)) (mulf (shapeCast _ (extractStridedSlice S2x16384x1x1024 ![0, 0, 2, 0] G slices_S2x16384x3x1024_S2x16384x1x1024_0_0_2_0) shapeCasts_S2x16384x1x1024_S2x16384x1024) C)

/-- The norm of the sum. -/
def NORMED (X : FVec Ideal S2x16384x1024 .f32) (g : FVec Ideal S1x1024 .f32) : FVec Ideal S2x16384x1024 .f32 :=
  mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ g shapeCasts_S1x1024_S1024)))

section
variable (x : FVec Ideal S2x16384x1024 .f32) (og : FVec Ideal S2x16384x1024 .bf16) (om : FVec Ideal S2x16384x512 .bf16)
  (p : FVec Ideal S2x16384x8320 .bf16) (kv : FVec Ideal S2x256x1024 .f32) (wg : FVec Ideal S1024x1024 .bf16) (wm we : FVec Ideal S512x1024 .bf16)
  (wo : FVec Ideal S1024x1024 .bf16) (wq : FVec Ideal S1024x2048 .bf16) (gq gk : FVec Ideal S1x128 .f32) (gf : FVec Ideal S1x1024 .f32)

/-- The memory branch before its projection. -/
def MEM : FVec Ideal S2x16384x512 .f32 := MIXED (SOFT (POWERS (SCORES (NORMQ (QUERIES p) gq) (NORMK (KEYS kv) gk)))) (VALUES kv)

/-- The first result. -/
def REF0 : FVec Ideal S2x16384x1024 .f32 :=
  addf x (PROJECTW (GATED (GATES p) (PROJECTW (extf .f32 og bitsLt_bf16_f32) wg) (PROJECT (extf .f32 om bitsLt_bf16_f32) wm) (PROJECT (MEM p kv gq gk) we)) wo)

/-- The second result. -/
def REF1 : FVec Ideal S2x16384x1024 .f32 := NORMED (REF0 x og om p kv wg wm we wo gq gk) gf

/-- The third result. -/
def REF2 : FVec Ideal S2x16384x2048 .f32 :=
  Host.dotGeneral dot_S2x16384x1024_S1024x2048_S2x16384x2048_2_0_01_1_n_n none (REF1 x og om p kv wg wm we wo gq gk gf) (extf .f32 wq bitsLt_bf16_f32)

end

section
variable (m : (ℓ : Loc nD τ sig) → Buf (Elt Ideal) ℓ) (c : Dev nD)

/-- The run's first result is that. -/
theorem res0 : res_out0 m c = REF0 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg10)) (m ((c.tc : Thread nD τ).loc main_arg11)) := by
  unfold res_out0 res_main_v82 REF0 MEM GATED GATES PROJECT PROJECTW MIXED SOFT POWERS SPREAD LARGEST SCORES NORMQ NORMK QUERIES KEYS VALUES
  rfl

/-- The run's second result is that. -/
theorem res1 : res_out1 m c = REF1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg10)) (m ((c.tc : Thread nD τ).loc main_arg11))
    (m ((c.tc : Thread nD τ).loc main_arg12)) := by
  unfold res_out1 res_main_v96 REF1 NORMED REF0 MEM GATED GATES PROJECT PROJECTW MIXED SOFT POWERS SPREAD LARGEST SCORES NORMQ NORMK QUERIES KEYS VALUES
  rfl

/-- The run's third result is that. -/
theorem res2 : res_out2 m c = REF2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) := by
  unfold res_out2 res_main_v98 REF2 REF1 NORMED REF0 MEM GATED GATES PROJECT PROJECTW MIXED SOFT POWERS SPREAD LARGEST SCORES NORMQ NORMK QUERIES KEYS VALUES
  rfl

end

/-- Dividing by 128 is multiplying by one over 128. -/
theorem over_128 (x : EReal) : Ideal.div x (Ideal.ofBits .f32 0x43000000#32) = x * Ideal.ofBits .f32 0x3C000000#32 := by
  have e : Ideal.ofBits .f32 0x43000000#32 = ((128 : ℝ) : EReal) := by simp [Ideal.ofBits, Ideal.ieee]; rw [← EReal.coe_mul]; norm_num
  have f : Ideal.ofBits .f32 0x3C000000#32 = ((1 / 128 : ℝ) : EReal) := by simp [Ideal.ofBits, Ideal.ieee]; rw [← EReal.coe_mul]; norm_num
  rw [e, f, Ideal.div_coe (by norm_num)]

/-- Dividing by 1024 is multiplying by one over 1024. -/
theorem over_1024 (x : EReal) : Ideal.div x (Ideal.ofBits .f32 0x44800000#32) = x * Ideal.ofBits .f32 0x3A800000#32 := by
  have e : Ideal.ofBits .f32 0x44800000#32 = ((1024 : ℝ) : EReal) := by simp [Ideal.ofBits, Ideal.ieee]; rw [← EReal.coe_mul]; norm_num
  have f : Ideal.ofBits .f32 0x3A800000#32 = ((1 / 1024 : ℝ) : EReal) := by simp [Ideal.ofBits, Ideal.ieee]; rw [← EReal.coe_mul]; norm_num
  rw [e, f, Ideal.div_coe (by norm_num)]

/-- A memory query. -/
theorem queries_at (p : FVec Ideal S2x16384x8320 .bf16) (b : Fin 2) (i : Fin 16384) (h : Fin 4) (d : Fin 128) :
    QUERIES p (ix4 b i h d) = p (ix3 b i ⟨7168 + (h * 128 + d), by omega⟩) := by
  pointwise [QUERIES]

/-- A memory key. -/
theorem keys_at (k : FVec Ideal S2x256x1024 .f32) (b : Fin 2) (j : Fin 256) (h : Fin 4) (d : Fin 128) :
    KEYS k (ix4 b j h d) = k (ix3 b j ⟨h * 128 + d, by omega⟩) := by
  pointwise [KEYS]

/-- A memory value. -/
theorem values_at (k : FVec Ideal S2x256x1024 .f32) (b : Fin 2) (j : Fin 256) (h : Fin 4) (d : Fin 128) :
    VALUES k (ix4 b j h d) = k (ix3 b j ⟨512 + (h * 128 + d), by omega⟩) := by
  pointwise [VALUES]

/-- A query's norm. -/
theorem normq_at (X : FVec Ideal S2x16384x4x128 .f32) (g : FVec Ideal S1x128 .f32) (b : Fin 2) (i : Fin 16384) (h : Fin 4) (d : Fin 128) :
    NORMQ X g (ix4 b i h d) = normed (Ideal.ofBits .f32 0x3C000000#32) (fun d : Fin 128 => X (ix4 b i h d)) (fun d => g (ix2 0 d)) d := by
  unfold normed eps
  simp only [← over_128]
  pointwise [NORMQ]

/-- A key's norm. -/
theorem normk_at (X : FVec Ideal S2x256x4x128 .f32) (g : FVec Ideal S1x128 .f32) (b : Fin 2) (j : Fin 256) (h : Fin 4) (d : Fin 128) :
    NORMK X g (ix4 b j h d) = normed (Ideal.ofBits .f32 0x3C000000#32) (fun d : Fin 128 => X (ix4 b j h d)) (fun d => g (ix2 0 d)) d := by
  unfold normed eps
  simp only [← over_128]
  pointwise [NORMK]

/-- A memory score. -/
theorem scores_at (Q : FVec Ideal S2x16384x4x128 .f32) (K : FVec Ideal S2x256x4x128 .f32) (b : Fin 2) (h : Fin 4) (i : Fin 16384) (j : Fin 256) :
    SCORES Q K (ix4 b h i j) = score (fun d : Fin 128 => Q (ix4 b i h d)) (fun d => K (ix4 b j h d)) := by
  unfold score scale
  pointwise [SCORES]

/-- The largest score. -/
theorem largest_at (S : FVec Ideal S2x4x16384x256 .f32) (b : Fin 2) (h : Fin 4) (i : Fin 16384) :
    LARGEST S (ix3 b h i) = (Finset.univ.sup fun k : Fin 256 => S (ix4 b h i k) : EReal) := by
  unfold LARGEST
  exact ReferenceIdeal.Value.largest_last S bcast_S_S2x4x16384 reducesTo_S2x4x16384x256_S2x4x16384_d3 (by decide) h_S_ b h i

/-- A number per query and head is the same for every token. -/
theorem spread_at (M : FVec Ideal S2x4x16384 .f32) (b : Fin 2) (h : Fin 4) (i : Fin 16384) (j : Fin 256) :
    SPREAD M (ix4 b h i j) = M (ix3 b h i) := by
  pointwise [SPREAD]

/-- An exponential. -/
theorem powers_at (S : FVec Ideal S2x4x16384x256 .f32) (b : Fin 2) (h : Fin 4) (i : Fin 16384) (j : Fin 256) :
    POWERS S (ix4 b h i j) = Ideal.exp (S (ix4 b h i j) - LARGEST S (ix3 b h i)) := by
  pointwise [POWERS, spread_at]

/-- An exponential divided by the sum of the exponentials. -/
theorem quotient_at (E : FVec Ideal S2x4x16384x256 .f32) (b : Fin 2) (h : Fin 4) (i : Fin 16384) (j : Fin 256) :
    SOFT E (ix4 b h i j) = Ideal.div (E (ix4 b h i j)) (∑ k : Fin 256, E (ix4 b h i k)) := by
  pointwise [SOFT, spread_at]

/-- A weight. -/
theorem soft_at (S : FVec Ideal S2x4x16384x256 .f32) (b : Fin 2) (h : Fin 4) (i : Fin 16384) (j : Fin 256) :
    SOFT (POWERS S) (ix4 b h i j) = soft (fun k : Fin 256 => S (ix4 b h i k)) j := by
  unfold soft
  rw [quotient_at]
  simp only [powers_at, largest_at]

/-- The weighted values. -/
theorem mixed_at (W : FVec Ideal S2x4x16384x256 .f32) (V : FVec Ideal S2x256x4x128 .f32) (b : Fin 2) (i : Fin 16384) (e : Fin 512) :
    MIXED W V (ix3 b i e) = ∑ j : Fin 256, V (ix4 b j ⟨e / 128, by omega⟩ ⟨e % 128, by omega⟩) * W (ix4 b ⟨e / 128, by omega⟩ i j) := by
  pointwise [MIXED]

/-- A projection of 512 columns. -/
theorem project_at (X : FVec Ideal S2x16384x512 .f32) (w : FVec Ideal S512x1024 .bf16) (b : Fin 2) (i : Fin 16384) (f : Fin 1024) :
    PROJECT X w (ix3 b i f) = ∑ e : Fin 512, X (ix3 b i e) * w (ix2 e f) := by
  pointwise [PROJECT]

/-- A projection of 1024 columns. -/
theorem projectw_at (X : FVec Ideal S2x16384x1024 .f32) (w : FVec Ideal S1024x1024 .bf16) (b : Fin 2) (i : Fin 16384) (f : Fin 1024) :
    PROJECTW X w (ix3 b i f) = ∑ e : Fin 1024, X (ix3 b i e) * w (ix2 e f) := by
  pointwise [PROJECTW]

/-- A gate. -/
theorem gates_at (p : FVec Ideal S2x16384x8320 .bf16) (b : Fin 2) (i : Fin 16384) (k : Fin 3) (f : Fin 1024) :
    GATES p (ix4 b i k f) = Ideal.div 1 (1 + Ideal.exp (-(p (ix3 b i ⟨4096 + (k * 1024 + f), by omega⟩)))) := by
  pointwise [GATES]

/-- The gated sum. -/
theorem gated_at (G : FVec Ideal S2x16384x3x1024 .f32) (A B C : FVec Ideal S2x16384x1024 .f32) (b : Fin 2) (i : Fin 16384) (f : Fin 1024) :
    GATED G A B C (ix3 b i f) = G (ix4 b i 0 f) * A (ix3 b i f) + G (ix4 b i 1 f) * B (ix3 b i f) + G (ix4 b i 2 f) * C (ix3 b i f) := by
  pointwise [GATED]

/-- The norm of the sum. -/
theorem normed_at (X : FVec Ideal S2x16384x1024 .f32) (g : FVec Ideal S1x1024 .f32) (b : Fin 2) (i : Fin 16384) (j : Fin 1024) :
    NORMED X g (ix3 b i j) = normed (Ideal.ofBits .f32 0x3A800000#32) (fun j : Fin 1024 => X (ix3 b i j)) (fun j => g (ix2 0 j)) j := by
  unfold normed eps
  simp only [← over_1024]
  pointwise [NORMED]

section
variable (x : FVec Ideal S2x16384x1024 .f32) (og : FVec Ideal S2x16384x1024 .bf16) (om : FVec Ideal S2x16384x512 .bf16)
  (p : FVec Ideal S2x16384x8320 .bf16) (kv : FVec Ideal S2x256x1024 .f32) (wg : FVec Ideal S1024x1024 .bf16) (wm we : FVec Ideal S512x1024 .bf16)
  (wo : FVec Ideal S1024x1024 .bf16) (wq : FVec Ideal S1024x2048 .bf16) (gq gk : FVec Ideal S1x128 .f32) (gf : FVec Ideal S1x1024 .f32)

/-- The row of an index. -/
def row (b : Fin 2) (i : Fin 16384) : Row where
  x j := x (ix3 b i j)
  og j := og (ix3 b i j)
  om j := om (ix3 b i j)
  gate k j := p (ix3 b i ⟨4096 + (k * 1024 + j), by omega⟩)
  mq j := p (ix3 b i ⟨7168 + j, by omega⟩)
  mkv i j := kv (ix3 b i j)

/-- The weights. -/
def weights : Weights where
  wg i j := wg (ix2 i j)
  wm i j := wm (ix2 i j)
  we i j := we (ix2 i j)
  wo i j := wo (ix2 i j)
  wq i j := wq (ix2 i j)
  gq j := gq (ix2 0 j)
  gk j := gk (ix2 0 j)
  gf j := gf (ix2 0 j)

variable (b : Fin 2) (i : Fin 16384)

/-- The memory branch before its projection. -/
theorem mem_at (e : Fin 512) : MEM p kv gq gk (ix3 b i e)
    = omem (row x og om p kv b i) (weights wg wm we wo wq gq gk gf) ⟨e / 128, by omega⟩ ⟨e % 128, by omega⟩ := by
  unfold MEM omem
  rw [mixed_at]
  simp only [soft_at, scores_at, normq_at, normk_at, queries_at, keys_at, values_at]
  refine Finset.sum_congr rfl fun j _ => ?_
  rw [mul_comm]
  rfl

/-- The first result is the merge of the row. -/
theorem ref0_at (j : Fin 1024) : REF0 x og om p kv wg wm we wo gq gk (ix3 b i j) = x1 (row x og om p kv b i) (weights wg wm we wo wq gq gk gf) j := by
  show x (ix3 b i j) + PROJECTW _ wo (ix3 b i j) = _
  simp only [projectw_at, gated_at, gates_at, project_at, mem_at x og om p kv wg wm we wo wq gq gk gf]
  rfl

/-- The second result is the norm of the row. -/
theorem ref1_at (j : Fin 1024) : REF1 x og om p kv wg wm we wo gq gk gf (ix3 b i j) = zn (row x og om p kv b i) (weights wg wm we wo wq gq gk gf) j := by
  unfold REF1
  simp only [normed_at, ref0_at x og om p kv wg wm we wo wq gq gk gf]
  rfl

/-- The third result is the retrieval query of the row. -/
theorem ref2_at (k : Fin 2048) : REF2 x og om p kv wg wm we wo wq gq gk gf (ix3 b i k) = qq (row x og om p kv b i) (weights wg wm we wo wq gq gk gf) k := by
  unfold qq
  simp only [← ref1_at x og om p kv wg wm we wo wq gq gk gf]
  unfold weights
  pointwise [REF2]

end

end Cert.Reference3Ideal.Value

end
-- ==== Proof.ConvRef.lean ====
/- The reference of the short convolution, at an index. -/
module

public import proofs.«01_k».proof.Proof.ConvStep
public import proofs.«01_k».proof.Proof.MergeRef
public import proofs.«01_k».proof.Proof.Gen.Reference6Ideal
public import Idealize.ShloMosaic.Lib.KernelVsHost

@[expose] public section

set_option maxRecDepth 16384

noncomputable section

namespace Cert.Reference6Ideal.Value

open Idealize.ShloMosaic Idealize.ShloMosaic.TcCoe Idealize.SL.Sem Cert.Merge Cert.Reference6Ideal.Facts₀ Cert.Reference6Ideal.Facts
open Cert.Kernel6Ideal.Value (padded conv act headRow)

variable (X : FVec Ideal S2x16384x8320 .bf16) (w : FVec Ideal S5x3072 .f32)

/-- The columns, two rows of zeros before them and after them. -/
def PADDED : FVec Ideal S2x16388x3072 .f32 :=
  pad S2x16388x3072 ![0, 2, 0] ![0, 2, 0] ![0, 0, 0] (extf .f32 (extractStridedSlice S2x16384x3072 ![0, 0, 0] X slices_S2x16384x8320_S2x16384x3072_0_0_0) bitsLt_bf16_f32)
    (sitofp .f32 (constantI S_ 32 0#32)) pads_S2x16384x3072_S2x16388x3072_000_220_000 h_S_

/-- A row of the weights at every position. -/
def TAP (v : FVec Ideal S1x3072 .f32) : FVec Ideal S2x16384x3072 .f32 :=
  broadcastInDim S2x16384x3072 ![0, 1, 2] bcast_S1x1x3072_S2x16384x3072_0_1_2 (broadcastInDim S1x1x3072 ![2] bcast_S3072_S1x1x3072_2 (shapeCast S3072 v shapeCasts_S1x3072_S3072))

/-- The convolution. -/
def CONV : FVec Ideal S2x16384x3072 .f32 :=
  addf (addf (addf (addf (addf (broadcastInDim S2x16384x3072 ![] bcast_S_S2x16384x3072 (constant S_ .f32 0x00000000#32))
    (mulf (extractStridedSlice S2x16384x3072 ![0, 0, 0] (PADDED X) slices_S2x16388x3072_S2x16384x3072_0_0_0) (TAP (extractStridedSlice S1x3072 ![0, 0] w slices_S5x3072_S1x3072_0_0))))
    (mulf (extractStridedSlice S2x16384x3072 ![0, 1, 0] (PADDED X) slices_S2x16388x3072_S2x16384x3072_0_1_0) (TAP (extractStridedSlice S1x3072 ![1, 0] w slices_S5x3072_S1x3072_1_0))))
    (mulf (extractStridedSlice S2x16384x3072 ![0, 2, 0] (PADDED X) slices_S2x16388x3072_S2x16384x3072_0_2_0) (TAP (extractStridedSlice S1x3072 ![2, 0] w slices_S5x3072_S1x3072_2_0))))
    (mulf (extractStridedSlice S2x16384x3072 ![0, 3, 0] (PADDED X) slices_S2x16388x3072_S2x16384x3072_0_3_0) (TAP (extractStridedSlice S1x3072 ![3, 0] w slices_S5x3072_S1x3072_3_0))))
    (mulf (extractStridedSlice S2x16384x3072 ![0, 4, 0] (PADDED X) slices_S2x16388x3072_S2x16384x3072_0_4_0) (TAP (extractStridedSlice S1x3072 ![4, 0] w slices_S5x3072_S1x3072_4_0)))

/-- Its activation, head by head. -/
def ACT (y : FVec Ideal S2x16384x3072 .f32) : FVec Ideal S2x16384x24x128 .f32 :=
  shapeCast S2x16384x24x128 (mulf y (Host.divf (broadcastInDim S2x16384x3072 ![] bcast_S_S2x16384x3072 (constant S_ .f32 0x3F800000#32))
    (addf (broadcastInDim S2x16384x3072 ![] bcast_S_S2x16384x3072 (constant S_ .f32 0x3F800000#32)) (Host.exp (Host.negf y))))) shapeCasts_S2x16384x3072_S2x16384x24x128

/-- The queries and the keys, of unit length. -/
def UNIT (q : FVec Ideal S2x16384x16x128 .f32) : FVec Ideal S2x16384x16x128 .f32 :=
  mulf q (broadcastInDim S2x16384x16x128 ![0, 1, 2, 3] bcast_S2x16384x16x1_S2x16384x16x128_0_1_2_3 (Host.rsqrt (addf (broadcastInDim S2x16384x16x1 ![0, 1, 2] bcast_S2x16384x16_S2x16384x16x1_0_1_2 (Host.reduceAdd (mulf q q) (constant S_ .f32 0x00000000#32) reducesTo_S2x16384x16x128_S2x16384x16_d3 h_S_)) (broadcastInDim S2x16384x16x1 ![] bcast_S_S2x16384x16x1 (constant S_ .f32 0x358637BD#32)))))

/-- The heads: the queries and the keys, then the values. -/
def HEADS (a : FVec Ideal S2x16384x24x128 .f32) : FVec Ideal S2x24x16384x128 .bf16 :=
  truncf .bf16 (transpose S2x24x16384x128 [0, 2, 1, 3] (concatenate S2x16384x24x128 2 [⟨S2x16384x16x128, UNIT (extractStridedSlice S2x16384x16x128 ![0, 0, 0, 0] a slices_S2x16384x24x128_S2x16384x16x128_0_0_0_0)⟩,
    ⟨S2x16384x8x128, extractStridedSlice S2x16384x8x128 ![0, 0, 16, 0] a slices_S2x16384x24x128_S2x16384x8x128_0_0_16_0⟩] concatenates_S2x16384x16x128_S2x16384x8x128_S2x16384x24x128_d2)
    transposes_S2x16384x24x128_S2x24x16384x128_0_2_1_3) bitsLt_bf16_f32

/-- The padded columns at an index. -/
theorem padded_at (b : Fin 2) (n : Fin 16388) (d : Fin 3072) :
    PADDED X (ix3 b n d) = padded (fun t => X (ix3 b t ⟨d.val, by omega⟩)) n.val := by
  pointwise [PADDED]
  unfold padded
  by_cases h : 2 ≤ n.val ∧ n.val < 16386
  · rw [dif_pos h, dif_pos ⟨h.1, by omega⟩]
  · rw [dif_neg h, dif_neg (by omega)]
    exact sitofp_zero

/-- Five terms in the order of the shifts, and the middle one first. -/
theorem middle_first (p₀ p₁ p₂ p₃ p₄ w₀ w₁ w₂ w₃ w₄ : EReal) :
    p₀ * w₀ + p₁ * w₁ + p₂ * w₂ + p₃ * w₃ + p₄ * w₄ = w₂ * p₂ + w₀ * p₀ + w₁ * p₁ + w₃ * p₃ + w₄ * p₄ := by
  rw [mul_comm p₀, mul_comm p₁, mul_comm p₂, mul_comm p₃, mul_comm p₄, add_comm _ (w₂ * p₂), ← add_assoc (w₂ * p₂)]

/-- The convolution at an index. -/
theorem conv_at (b : Fin 2) (t : Fin 16384) (d : Fin 3072) :
    CONV X w (ix3 b t d) = conv (fun t => X (ix3 b t ⟨d.val, by omega⟩)) (fun j => w (ix2 j d)) t.val := by
  pointwise [CONV, TAP]
  simp only [padded_at]
  unfold conv
  rw [middle_first, Nat.add_comm 1 t.val, Nat.add_comm 2 t.val, Nat.add_comm 3 t.val, Nat.add_comm 4 t.val]

/-- The activation at an index. -/
theorem act_at (y : FVec Ideal S2x16384x3072 .f32) (b : Fin 2) (t : Fin 16384) (h : Fin 24) (l : Fin 128) :
    ACT y (ix4 b t h l) = y (ix3 b t ⟨h.val * 128 + l.val, by omega⟩) * Ideal.logistic (y (ix3 b t ⟨h.val * 128 + l.val, by omega⟩)) := by
  pointwise [ACT]
  rfl

/-- A head at an index. -/
theorem heads_at (a : FVec Ideal S2x16384x24x128 .f32) (b : Fin 2) (t : Fin 16384) (h : Fin 24) (l : Fin 128) :
    HEADS a (ix4 b h t l) = if h.val < 16 then a (ix4 b t h l) * Ideal.rsqrt ((∑ d : Fin 128, a (ix4 b t h d) * a (ix4 b t h d)) + eps) else a (ix4 b t h l) := by
  unfold eps
  pointwise [HEADS, UNIT]
  by_cases h16 : h.val < 16
  · rw [dif_pos h16, if_pos h16]
  · rw [dif_neg h16, if_neg h16]
    congr 2
    exact Fin.ext (by dsimp only; omega)

/-- The result. -/
def SHORT : FVec Ideal S2x24x16384x128 .bf16 := HEADS (ACT (CONV X w))

/-- The result at an index. -/
theorem short_at (b : Fin 2) (h : Fin 24) (t : Fin 16384) (l : Fin 128) :
    SHORT X w (ix4 b h t l) = headRow (h.val < 16) (fun t d => X (ix3 b t ⟨h.val * 128 + d.val, by omega⟩)) (fun j d => w (ix2 j ⟨h.val * 128 + d.val, by omega⟩)) t.val l := by
  refine (heads_at _ b t h l).trans ?_
  simp only [act_at, conv_at]
  rfl

end Cert.Reference6Ideal.Value

end
-- ==== Proof.ConvEquation.lean ====
/- The equation of the short convolution: the kernel's array after the run is the reference's result. -/
module

public import proofs.«01_k».proof.Proof.ConvRef

@[expose] public section

set_option maxRecDepth 16384

noncomputable section

namespace Cert.Kernel6Ideal.Value

open Idealize.ShloMosaic Idealize.ShloMosaic.TcCoe Idealize.SL.Sem Cert.Merge Cert.Kernel6Ideal.Gen Cert.Reference6Ideal.Value

/-- The windows' blocks: a sequence's head and its weights. -/
theorem idx : ∀ t : Fin cfg0.N, win0_0.index t = ![t.val / 24, 0, t.val % 24] ∧ win0_1.index t = ![0, t.val % 24] ∧ win0_2.index t = ![t.val / 24, t.val % 24, 0, 0]
    ∧ (grid0.coords t 1).val = t.val % 24 :=
  (by decide +kernel : ∀ t : Fin grid0.N, _)

variable (m : (ℓ : Loc nD τ sig) → Buf (Elt Ideal) ℓ) (c : Dev nD)

/-- A head's columns. -/
theorem blk0 (t : Fin cfg0.N) (r : Fin 16384) (l : Fin 128) :
    iblk m c 0 t (ix3 0 r l) = m ((c.tc : Thread nD τ).loc main_arg0) (ix3 ⟨t.val / 24, by have : t.val < 48 := t.isLt; omega⟩ r ⟨t.val % 24 * 128 + l.val, by omega⟩) := by
  rw [← V_main_arg0 m c]
  blk_point [iblk, idx t]

/-- A head's weights. -/
theorem blk1 (t : Fin cfg0.N) (j : Fin 5) (l : Fin 128) :
    iblk m c 1 t (ix2 j l) = m ((c.tc : Thread nD τ).loc main_arg1) (ix2 j ⟨t.val % 24 * 128 + l.val, by omega⟩) := by
  rw [← V_main_arg1 m c]
  blk_point [iblk, idx t]

/-- The kernel's array after the run is the reference's result. -/
theorem final : (dats m 0 c).arrAt 2 cfg0.N = SHORT (m ((c.tc : Thread nD τ).loc main_arg0)) (m ((c.tc : Thread nD τ).loc main_arg1)) := by
  refine (dats m 0 c).arrAt_eq_of_covers 2 _ (by decide +kernel) fun t _ y => ?_
  blk_simp
  rw [after0_2]
  obtain ⟨r, l, rfl⟩ : ∃ (r : Fin 16384) (l : Fin 128), y = (ix4 0 0 r l : S1x1x16384x128.Idx) := by
    refine ⟨y 2, y 3, (eq_ix4 y).trans ?_⟩
    rw [show y 0 = (0 : Fin 1) from Subsingleton.elim (α := Fin 1) _ _, show y 1 = (0 : Fin 1) from Subsingleton.elim (α := Fin 1) _ _]
  unfold outsAt0
  rw [out_eq]
  show headRow _ _ _ r.val l = _
  simp only [blk0, blk1, idx t]
  refine (short_at _ _ ⟨t.val / 24, by have : t.val < 48 := t.isLt; omega⟩ ⟨t.val % 24, by omega⟩ r l).symm.trans ?_
  congr 1
  blk_ext [idx t]

end Cert.Kernel6Ideal.Value

end
-- ==== Proof.Step.lean ====
/- What one block of keys does to one head's running maximum, sum and weighted sum: the kernel's
   stored payloads, read at a row (and a lane), are the running quantities of `Cert.Softmax` after the block. -/
module

public import proofs.«01_k».proof.Proof.OnlineSoftmax
public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.SL.Sem Cert.Softmax

/-- The pattern of −∞ is `⊥`. -/
theorem ofBits_negInf : Ideal.ofBits .f32 0xFF800000#32 = (⊥ : EReal) := by simp [Ideal.ofBits, Ideal.ieee]

variable (q k : FVec Ideal S1x1x512x128 .bf16) (mp lp : FVec Ideal S1x512x1 .f32) (ap : FVec Ideal S1x512x128 .f32)
  (vb : FVec Ideal S1x512x128 .bf16)

/-- The scores of a block: a row of queries against a row of keys. -/
theorem scores_at (r c : Fin 512) :
    k0_pay9 (F := Ideal) q k (ix2 r c) = ∑ d : Fin 128, q (ix4 0 0 r d) * k (ix4 0 0 c d) := by
  pointwise [k0_pay9]

/-- The new maximum: the old one and the block's scores. -/
theorem max_at (r : Fin 512) :
    k0_pay11 (F := Ideal) q k mp (ix2 r 0) = max (mp (ix3 0 r 0)) (Finset.univ.sup fun c : Fin 512 => k0_pay9 (F := Ideal) q k (ix2 r c)) := by
  pointwise [k0_pay11, k0_pay10]
  rw [ofBits_negInf]; rfl

/-- The new sum, from the old one and the block's scores. -/
theorem sum_at (r : Fin 512) :
    k0_pay14 (F := Ideal) q k mp lp (ix3 0 r 0) = Ideal.exp (mp (ix3 0 r 0) - k0_pay11 (F := Ideal) q k mp (ix2 r 0)) * lp (ix3 0 r 0)
      + ∑ c : Fin 512, Ideal.exp (k0_pay9 (F := Ideal) q k (ix2 r c) - k0_pay11 (F := Ideal) q k mp (ix2 r 0)) := by
  pointwise [k0_pay14, k0_pay12, k0_pay13, k0_pay10]

/-- The new weighted sum, from the old one, the block's scores and the block's values. -/
theorem acc_at (r : Fin 512) (d : Fin 128) :
    k0_pay15 (F := Ideal) (k0_pay8 (F := Ideal) vb) (k0_pay12 (F := Ideal) q k mp) (k0_pay13 (F := Ideal) q k mp) ap (ix3 0 r d)
      = Ideal.exp (mp (ix3 0 r 0) - k0_pay11 (F := Ideal) q k mp (ix2 r 0)) * ap (ix3 0 r d)
        + ∑ c : Fin 512, Ideal.exp (k0_pay9 (F := Ideal) q k (ix2 r c) - k0_pay11 (F := Ideal) q k mp (ix2 r 0)) * vb (ix3 0 c d) := by
  pointwise [k0_pay15, k0_pay8, k0_pay12, k0_pay13, k0_pay10]

/-- The stored maximum is the new maximum. -/
theorem store_at (x : FVec Ideal S512x1 .f32) (r : Fin 512) : k0_pay16 (F := Ideal) x (ix3 0 r 0) = x (ix2 r 0) := by
  pointwise [k0_pay16]

section
variable {s : ℕ → EReal} {n : ℕ} {r : Fin 512} (hs : ∀ k < n + 512, ∃ x : ℝ, s k = x)
  (hq : ∀ c : Fin 512, ∑ d : Fin 128, q (ix4 0 0 r d) * k (ix4 0 0 c d) = s (n + c)) (hm : mp (ix3 0 r 0) = top s n)
include hq hm

/-- One block: the maximum of the first `n` scores becomes that of the first `n + 512`. -/
theorem step_top : k0_pay11 (F := Ideal) q k mp (ix2 r 0) = top s (n + 512) := by
  rw [max_at, hm, top_add]
  simp only [scores_at, hq]

/-- One block: the stored maximum is that of the first `n + 512` scores. -/
theorem step_max : k0_pay16 (F := Ideal) (k0_pay11 (F := Ideal) q k mp) (ix3 0 r 0) = top s (n + 512) := by
  rw [store_at, step_top q k mp hq hm]

include hs

/-- One block: the stored sum is that of the first `n + 512` scores. -/
theorem step_sum (hl : lp (ix3 0 r 0) = mass s n) : k0_pay14 (F := Ideal) q k mp lp (ix3 0 r 0) = mass s (n + 512) := by
  rw [sum_at, step_top q k mp hq hm, mass_add (by omega) hs, hm, hl]
  simp only [scores_at, hq]

/-- One block: the stored weighted sum is that of the first `n + 512` scores and values. -/
theorem step_acc {v : ℕ → EReal} {d : Fin 128} (hv : ∀ c : Fin 512, vb (ix3 0 c d) = v (n + c))
    (ha : ap (ix3 0 r d) = weighted s v n) :
    k0_pay15 (F := Ideal) (k0_pay8 (F := Ideal) vb) (k0_pay12 (F := Ideal) q k mp) (k0_pay13 (F := Ideal) q k mp) ap (ix3 0 r d) = weighted s v (n + 512) := by
  rw [acc_at, step_top q k mp hq hm, weighted_add v (by omega) hs, hm, ha]
  simp only [scores_at, hq, hv]

end

/-- The two heads of a block run the same arithmetic: the stored maximum. -/
theorem head1_max : k0_pay3 (F := Ideal) (k0_pay19 (F := Ideal) q k mp) = k0_pay16 (F := Ideal) (k0_pay11 (F := Ideal) q k mp) := rfl

/-- The two heads of a block run the same arithmetic: the stored sum. -/
theorem head1_sum : k0_pay1 (F := Ideal) (k0_pay21 (F := Ideal) q k mp) (k0_pay22 (F := Ideal) q k mp lp) = k0_pay14 (F := Ideal) q k mp lp := rfl

/-- The two heads of a block run the same arithmetic: the stored weighted sum. -/
theorem head1_acc : k0_pay2 (F := Ideal) (k0_pay8 (F := Ideal) vb) (k0_pay20 (F := Ideal) q k mp) (k0_pay21 (F := Ideal) q k mp) ap
    = k0_pay15 (F := Ideal) (k0_pay8 (F := Ideal) vb) (k0_pay12 (F := Ideal) q k mp) (k0_pay13 (F := Ideal) q k mp) ap := rfl

/-- The lane test. -/
theorem lane_test : ∀ d : Fin 128, IntOp.cmpi .slt (BitVec.ofNat 32 (d : ℕ)) 64#32 = if (d : ℕ) < 64 then 1#1 else 0#1 := by
  decide +kernel

/-- What is written out: lanes below 64 are the first head's quotient, the others the second's. -/
theorem out_at (a0 a1 : FVec Ideal S1x512x128 .f32) (l0 l1 : FVec Ideal S1x512x1 .f32) (r : Fin 512) (d : Fin 128) :
    k0_pay4 (F := Ideal) a0 l0 a1 l1 (ix3 0 r d) = if (d : ℕ) < 64 then Ideal.div (a0 (ix3 0 r d)) (l0 (ix3 0 r 0))
      else Ideal.div (a1 (ix3 0 r d)) (l1 (ix3 0 r 0)) := by
  pointwise [k0_pay4]
  rw [lane_test]
  split_ifs <;> rfl

/-- The first maxima are `⊥`. -/
theorem init_max (j : S2x512x1.Idx) : k0_pay5 (F := Ideal) j = (⊥ : EReal) := by
  pointwise [k0_pay5]
  exact ofBits_negInf

/-- The first sums are zero. -/
theorem init_sum (j : S2x512x1.Idx) : k0_pay6 (F := Ideal) j = (0 : EReal) := by
  pointwise [k0_pay6]

/-- The first weighted sums are zero. -/
theorem init_acc (j : S2x512x128.Idx) : k0_pay7 (F := Ideal) j = (0 : EReal) := by
  pointwise [k0_pay7]

end Cert.KernelIdeal.Gen

end
-- ==== Proof.Blocks.lean ====
/- The blocks the attention kernel reads: at a grid point, the block of queries against a row of the
   block of keys is the score of a query and a key of the arguments, and the block of values holds
   values of the argument. -/
module

public import proofs.«01_k».proof.Proof.Step
public import proofs.«01_k».proof.Proof.Gen.KernelIdeal.Value
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.Softmax Cert.KernelIdeal.Gen

/-- The scores of query `i` of head `h` in batch `b`, key after key (zero past the last key). -/
def score (Q K : FVec Ideal S2x8x16384x128 .bf16) (b : Fin 2) (h : Fin 8) (i : Fin 16384) (k : ℕ) : EReal :=
  if hk : k < 16384 then ∑ d : Fin 128, Q (ix4 b h i d) * K (ix4 b h ⟨k, hk⟩ d) else 0

/-- Column `e` of the values of batch `b`, key after key (zero past the last key). -/
def value (V : FVec Ideal S2x16384x512 .bf16) (b : Fin 2) (e : Fin 512) (k : ℕ) : EReal :=
  if hk : k < 16384 then V (ix3 b ⟨k, hk⟩ e) else 0

/-- Where the four windows' blocks lie at a grid point: the point's batch, pair of heads, block of queries and block of keys. -/
theorem idx : ∀ t : Fin cfg0.N, win0_0.index t = ![t.val / 4096, t.val / 1024 % 4, t.val / 32 % 32, 0]
    ∧ win0_1.index t = ![t.val / 4096, t.val / 1024 % 4, t.val % 32, 0]
    ∧ win0_2.index t = ![t.val / 4096, t.val % 32, t.val / 1024 % 4]
    ∧ win0_3.index t = ![t.val / 4096, t.val / 32 % 32, t.val / 1024 % 4] ∧ t.val < 8192 :=
  (by decide +kernel : ∀ t : Fin grid0.N, _)

/-- The batch of a grid point. -/
def bt (t : ℕ) (ht : t < 8192) : Fin 2 := ⟨t / 4096, by omega⟩

/-- The head a grid point's slab `hh` belongs to. -/
def hd (t : ℕ) (hh : Fin 2) : Fin 8 := ⟨t / 1024 % 4 * 2 + hh, by omega⟩

/-- The query a grid point's row `r` is. -/
def qr (t : ℕ) (r : Fin 512) : Fin 16384 := ⟨t / 32 % 32 * 512 + r, by omega⟩

/-- The column of the values a grid point's lane `d` is. -/
def vc (t : ℕ) (d : Fin 128) : Fin 512 := ⟨t / 1024 % 4 * 128 + d, by omega⟩

variable (m : (ℓ : Loc nD τ sig) → Buf (Elt Ideal) ℓ) (c : Dev nD)

/-- The queries. -/
def argQ : FVec Ideal S2x8x16384x128 .bf16 := m ((c : Thread nD τ).loc main_arg0)

/-- The keys. -/
def argK : FVec Ideal S2x8x16384x128 .bf16 := m ((c : Thread nD τ).loc main_arg1)

/-- The values. -/
def argV : FVec Ideal S2x16384x512 .bf16 := m ((c : Thread nD τ).loc main_arg2)

/-- The scores of a row of a grid point. -/
def rowScore (t : ℕ) (ht : t < 8192) (hh : Fin 2) (r : Fin 512) : ℕ → EReal :=
  score (argQ m c) (argK m c) (bt t ht) (hd t hh) (qr t r)

/-- The values a lane of a grid point reads. -/
def laneValue (t : ℕ) (ht : t < 8192) (d : Fin 128) : ℕ → EReal := value (argV m c) (bt t ht) (vc t d)

/-- A row of the block of queries against a row of the block of keys is a score of the arguments. -/
theorem blk_scores (t : Fin cfg0.N) (ht : t.val < 8192) (hh : Fin 2) (r k : Fin 512) :
    ∑ d : Fin 128, (show FVec Ideal S1x2x512x128 .bf16 from iblk m c 0 t) (ix4 0 hh r d)
        * (show FVec Ideal S1x2x512x128 .bf16 from iblk m c 1 t) (ix4 0 hh k d)
      = rowScore m c t.val ht hh r (t.val % 32 * 512 + k) := by
  rw [rowScore, score, dif_pos (by omega)]
  unfold argQ argK bt hd qr
  blk_point [iblk, V, idx t]

/-- The block of values holds values of the argument. -/
theorem blk_values (t : Fin cfg0.N) (ht : t.val < 8192) (k : Fin 512) (d : Fin 128) :
    (show FVec Ideal S1x512x128 .bf16 from iblk m c 2 t) (ix3 0 k d) = laneValue m c t.val ht d (t.val % 32 * 512 + k) := by
  rw [laneValue, value, dif_pos (by omega)]
  unfold argV bt vc
  blk_point [iblk, V, idx t]

end Cert.KernelIdeal.Value

end
-- ==== Proof.Scratch.lean ====
/- What the attention kernel's three scratch buffers hold after each grid point: per head and row,
   the running maximum, sum and weighted sum of the keys of the row's batch and head up to and including
   the point's block of keys. -/
module

public import proofs.«01_k».proof.Proof.Blocks
public import Idealize.ShloMosaic.Lib.Pipeline.ReadBack

@[expose] public section

set_option maxRecDepth 16384

noncomputable section

namespace Cert.KernelIdeal.Value

open Idealize.ShloMosaic Idealize.ShloMosaic.TcCoe Idealize.SL.Sem Cert.Softmax Cert.KernelIdeal.Gen

/-- What is stored last over two earlier pieces that leave nothing uncovered at `y` is not seen there. -/
theorem canon_drop {S : Shape} {e : EltTy} {Val : EltTy → Type} [∀ e, Nonempty (Val e)] (p q z : View.Piece Val S e) (y : S.Idx)
    (h : y ∈ p.1.set ∨ y ∈ q.1.set) : View.canon [p, q, z] y = View.canon [p, q] y := by
  by_cases hp : y ∈ p.1.set
  · obtain ⟨r, w⟩ := p
    obtain ⟨x, rfl⟩ : ∃ x, r.emb x = y := r.exists_idx_of_mem hp
    rw [View.canon_cons_emb, View.canon_cons_emb]
  · have hq : y ∈ q.1.set := h.resolve_left hp
    rw [View.canon_cons_of_not_mem p _ hp, View.canon_cons_of_not_mem p _ hp]
    obtain ⟨r, w⟩ := q
    obtain ⟨x, rfl⟩ : ∃ x, r.emb x = y := r.exists_idx_of_mem hq
    rw [View.canon_cons_emb, View.canon_cons_emb]

/-- Every index of a two-slab buffer lies in one of the two slabs. -/
theorem slabs (n : ℕ) (hh : Fin 2) (r : Fin 512) (d : Fin n) :
    (∀ a : Fin 3, (![1, 0, 0] : Fin 3 → ℕ) a ≤ (ix3 hh r d a : ℕ) ∧ (ix3 hh r d a : ℕ) < (![1, 0, 0] : Fin 3 → ℕ) a + (![1, 512, n] : Fin 3 → ℕ) a)
      ∨ (∀ a : Fin 3, (![0, 0, 0] : Fin 3 → ℕ) a ≤ (ix3 hh r d a : ℕ) ∧ (ix3 hh r d a : ℕ) < (![0, 0, 0] : Fin 3 → ℕ) a + (![1, 512, n] : Fin 3 → ℕ) a) := by
  rcases (by omega : (hh : ℕ) = 1 ∨ (hh : ℕ) = 0) with h | h
  · left
    intro a
    match a with
    | ⟨0, _⟩ => show 1 ≤ (hh : ℕ) ∧ (hh : ℕ) < 1 + 1; omega
    | ⟨1, _⟩ => show 0 ≤ (r : ℕ) ∧ (r : ℕ) < 0 + 512; omega
    | ⟨2, _⟩ => show 0 ≤ (d : ℕ) ∧ (d : ℕ) < 0 + n; omega
  · right
    intro a
    match a with
    | ⟨0, _⟩ => show 0 ≤ (hh : ℕ) ∧ (hh : ℕ) < 0 + 1; omega
    | ⟨1, _⟩ => show 0 ≤ (r : ℕ) ∧ (r : ℕ) < 0 + 512; omega
    | ⟨2, _⟩ => show 0 ≤ (d : ℕ) ∧ (d : ℕ) < 0 + n; omega

/-- An index of a slab with the row and lane given. -/
theorem slab_idx (n : ℕ) (x : (⟨3, ![1, 512, n]⟩ : Shape).Idx) (r : Fin 512) (d : Fin n) (h1 : (r : ℕ) = x 1) (h2 : (d : ℕ) = x 2) :
    x = ix3 0 r d := by
  rw [eq_ix3 x]
  refine (ix3_inj ..).2 ⟨?_, (Fin.ext h1).symm, (Fin.ext h2).symm⟩
  exact Subsingleton.elim (α := Fin 1) _ _

variable (m : (ℓ : Loc nD τ sig) → Buf (Elt Ideal) ℓ) (c : Dev nD)

/-- After the first block of keys: the running maximum. -/
theorem max_A (t : Fin cfg0.N) (ht : t.val < 8192) (hz : t.val % 32 = 0) (h1 : ¬ t.val % 32 = 31)
    (hh : Fin 2) (r : Fin 512) :
    (outsAt0 m c t.val t.isLt).2.1 (ix3 hh r 0) = top (rowScore m c t.val ht hh r) (t.val % 32 * 512 + 512) := by
  rw [outsAt0_A m c t hz h1]
  frame_out
  rw [canon_drop]
  rotate_left
  · rw [Rect.mem_set_unit, Rect.mem_set_unit]
    exact slabs 1 hh r 0
  canon_tiles x h
  · obtain rfl : hh = 1 := Fin.ext (by simp at h0; omega)
    obtain rfl : x = ix3 0 r 0 := slab_idx 1 x r 0 h1 h2
    rw [head1_max]
    refine step_max _ _ _ ?_ ?_
    · intro k
      pointwise
      exact blk_scores m c t ht 1 r k
    · rw [View.readCov_skip _ _ _ _ _ (by rfl), View.readCov_fill _ _ _ _ _ (by decide)]
      refine (init_max _).trans ?_
      rw [hz, zero_mul, top_zero]
  · obtain rfl : hh = 0 := Fin.ext (by simp at h0; omega)
    obtain rfl : x = ix3 0 r 0 := slab_idx 1 x r 0 h1 h2
    refine step_max _ _ _ ?_ ?_
    · intro k
      pointwise
      exact blk_scores m c t ht 0 r k
    · rw [View.readCov_fill _ _ _ _ _ (by decide)]
      refine (init_max _).trans ?_
      rw [hz, zero_mul, top_zero]

/-- After the first block of keys: the running sum. -/
theorem sum_A (t : Fin cfg0.N) (ht : t.val < 8192) (hz : t.val % 32 = 0) (h1 : ¬ t.val % 32 = 31)
    (hs : ∀ (hh : Fin 2) (r : Fin 512) (k : ℕ), ∃ x : ℝ, rowScore m c t.val ht hh r k = x)
    (hh : Fin 2) (r : Fin 512) :
    (outsAt0 m c t.val t.isLt).2.2.1 (ix3 hh r 0) = mass (rowScore m c t.val ht hh r) (t.val % 32 * 512 + 512) := by
  rw [outsAt0_A m c t hz h1]
  frame_out
  rw [canon_drop]
  rotate_left
  · rw [Rect.mem_set_unit, Rect.mem_set_unit]
    exact slabs 1 hh r 0
  canon_tiles x h
  · obtain rfl : hh = 1 := Fin.ext (by simp at h0; omega)
    obtain rfl : x = ix3 0 r 0 := slab_idx 1 x r 0 h1 h2
    rw [head1_sum]
    refine step_sum _ _ _ _ (fun k _ => hs 1 r k) ?_ ?_ ?_
    · intro k
      pointwise
      exact blk_scores m c t ht 1 r k
    · rw [View.readCov_skip _ _ _ _ _ (by rfl), View.readCov_fill _ _ _ _ _ (by decide)]
      refine (init_max _).trans ?_
      rw [hz, zero_mul, top_zero]
    · rw [View.readCov_skip _ _ _ _ _ (by rfl), View.readCov_fill _ _ _ _ _ (by decide)]
      refine (init_sum _).trans ?_
      rw [hz, zero_mul, mass_zero]
  · obtain rfl : hh = 0 := Fin.ext (by simp at h0; omega)
    obtain rfl : x = ix3 0 r 0 := slab_idx 1 x r 0 h1 h2
    refine step_sum _ _ _ _ (fun k _ => hs 0 r k) ?_ ?_ ?_
    · intro k
      pointwise
      exact blk_scores m c t ht 0 r k
    · rw [View.readCov_fill _ _ _ _ _ (by decide)]
      refine (init_max _).trans ?_
      rw [hz, zero_mul, top_zero]
    · rw [View.readCov_fill _ _ _ _ _ (by decide)]
      refine (init_sum _).trans ?_
      rw [hz, zero_mul, mass_zero]

/-- After the first block of keys: the running weighted sum. -/
theorem acc_A (t : Fin cfg0.N) (ht : t.val < 8192) (hz : t.val % 32 = 0) (h1 : ¬ t.val % 32 = 31)
    (hs : ∀ (hh : Fin 2) (r : Fin 512) (k : ℕ), ∃ x : ℝ, rowScore m c t.val ht hh r k = x)
    (hh : Fin 2) (r : Fin 512) (d : Fin 128) :
    (outsAt0 m c t.val t.isLt).2.2.2 (ix3 hh r d) = weighted (rowScore m c t.val ht hh r) (laneValue m c t.val ht d) (t.val % 32 * 512 + 512) := by
  rw [outsAt0_A m c t hz h1]
  frame_out
  rw [canon_drop]
  rotate_left
  · rw [Rect.mem_set_unit, Rect.mem_set_unit]
    exact slabs 128 hh r d
  canon_tiles x h
  · obtain rfl : hh = 1 := Fin.ext (by simp at h0; omega)
    obtain rfl : x = ix3 0 r d := slab_idx 128 x r d h1 h2
    rw [head1_acc]
    refine step_acc _ _ _ _ _ (fun k _ => hs 1 r k) ?_ ?_ ?_ ?_
    · intro k
      pointwise
      exact blk_scores m c t ht 1 r k
    · rw [View.readCov_skip _ _ _ _ _ (by rfl), View.readCov_fill _ _ _ _ _ (by decide)]
      refine (init_max _).trans ?_
      rw [hz, zero_mul, top_zero]
    · exact fun k => blk_values m c t ht k d
    · rw [View.readCov_skip _ _ _ _ _ (by rfl), View.readCov_fill _ _ _ _ _ (by decide)]
      refine (init_acc _).trans ?_
      rw [hz, zero_mul, weighted_zero]
  · obtain rfl : hh = 0 := Fin.ext (by simp at h0; omega)
    obtain rfl : x = ix3 0 r d := slab_idx 128 x r d h1 h2
    refine step_acc _ _ _ _ _ (fun k _ => hs 0 r k) ?_ ?_ ?_ ?_
    · intro k
      pointwise
      exact blk_scores m c t ht 0 r k
    · rw [View.readCov_fill _ _ _ _ _ (by decide)]
      refine (init_max _).trans ?_
      rw [hz, zero_mul, top_zero]
    · exact fun k => blk_values m c t ht k d
    · rw [View.readCov_fill _ _ _ _ _ (by decide)]
      refine (init_acc _).trans ?_
      rw [hz, zero_mul, weighted_zero]

/-- After a block of keys between the first and the last: the running maximum. -/
theorem max_B (t : Fin cfg0.N) (ht : t.val < 8192) (h0 : ¬ t.val % 32 = 0) (h1 : ¬ t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (hh : Fin 2) (r : Fin 512) :
    (outsAt0 m c t.val t.isLt).2.1 (ix3 hh r 0) = top (rowScore m c t.val ht hh r) (t.val % 32 * 512 + 512) := by
  rw [outsAt0_B m c t h0 h1]
  frame_out
  canon_tiles x h
  · obtain rfl : hh = 1 := Fin.ext (by simp at h0; omega)
    obtain rfl : x = ix3 0 r 0 := slab_idx 1 x r 0 h1 h2
    rw [head1_max]
    refine step_max _ _ _ ?_ ?_
    · intro k
      pointwise
      exact blk_scores m c t ht 1 r k
    · pointwise
      exact (congrFun (read_unread_whole _ _ _) _).trans (p0 1 r)
  · obtain rfl : hh = 0 := Fin.ext (by simp at h0; omega)
    obtain rfl : x = ix3 0 r 0 := slab_idx 1 x r 0 h1 h2
    refine step_max _ _ _ ?_ ?_
    · intro k
      pointwise
      exact blk_scores m c t ht 0 r k
    · pointwise
      exact (congrFun (read_unread_whole _ _ _) _).trans (p0 0 r)

/-- After a block of keys between the first and the last: the running sum. -/
theorem sum_B (t : Fin cfg0.N) (ht : t.val < 8192) (h0 : ¬ t.val % 32 = 0) (h1 : ¬ t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (p1 : ∀ (hh : Fin 2) (r : Fin 512), (outsAt0 m c (t.val - 1) (Nat.lt_of_le_of_lt (Nat.sub_le _ _) t.isLt)).2.2.1 (ix3 hh r 0) = mass (rowScore m c t.val ht hh r) (t.val % 32 * 512))
    (hs : ∀ (hh : Fin 2) (r : Fin 512) (k : ℕ), ∃ x : ℝ, rowScore m c t.val ht hh r k = x)
    (hh : Fin 2) (r : Fin 512) :
    (outsAt0 m c t.val t.isLt).2.2.1 (ix3 hh r 0) = mass (rowScore m c t.val ht hh r) (t.val % 32 * 512 + 512) := by
  rw [outsAt0_B m c t h0 h1]
  frame_out
  canon_tiles x h
  · obtain rfl : hh = 1 := Fin.ext (by simp at h0; omega)
    obtain rfl : x = ix3 0 r 0 := slab_idx 1 x r 0 h1 h2
    rw [head1_sum]
    refine step_sum _ _ _ _ (fun k _ => hs 1 r k) ?_ ?_ ?_
    · intro k
      pointwise
      exact blk_scores m c t ht 1 r k
    · pointwise
      exact (congrFun (read_unread_whole _ _ _) _).trans (p0 1 r)
    · pointwise
      exact (congrFun (read_unread_whole _ _ _) _).trans (p1 1 r)
  · obtain rfl : hh = 0 := Fin.ext (by simp at h0; omega)
    obtain rfl : x = ix3 0 r 0 := slab_idx 1 x r 0 h1 h2
    refine step_sum _ _ _ _ (fun k _ => hs 0 r k) ?_ ?_ ?_
    · intro k
      pointwise
      exact blk_scores m c t ht 0 r k
    · pointwise
      exact (congrFun (read_unread_whole _ _ _) _).trans (p0 0 r)
    · pointwise
      exact (congrFun (read_unread_whole _ _ _) _).trans (p1 0 r)

/-- After a block of keys between the first and the last: the running weighted sum. -/
theorem acc_B (t : Fin cfg0.N) (ht : t.val < 8192) (h0 : ¬ t.val % 32 = 0) (h1 : ¬ t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (p2 : ∀ (hh : Fin 2) (r : Fin 512) (d : Fin 128), (outsAt0 m c (t.val - 1) (Nat.lt_of_le_of_lt (Nat.sub_le _ _) t.isLt)).2.2.2 (ix3 hh r d) = weighted (rowScore m c t.val ht hh r) (laneValue m c t.val ht d) (t.val % 32 * 512))
    (hs : ∀ (hh : Fin 2) (r : Fin 512) (k : ℕ), ∃ x : ℝ, rowScore m c t.val ht hh r k = x)
    (hh : Fin 2) (r : Fin 512) (d : Fin 128) :
    (outsAt0 m c t.val t.isLt).2.2.2 (ix3 hh r d) = weighted (rowScore m c t.val ht hh r) (laneValue m c t.val ht d) (t.val % 32 * 512 + 512) := by
  rw [outsAt0_B m c t h0 h1]
  frame_out
  canon_tiles x h
  · obtain rfl : hh = 1 := Fin.ext (by simp at h0; omega)
    obtain rfl : x = ix3 0 r d := slab_idx 128 x r d h1 h2
    rw [head1_acc]
    refine step_acc _ _ _ _ _ (fun k _ => hs 1 r k) ?_ ?_ ?_ ?_
    · intro k
      pointwise
      exact blk_scores m c t ht 1 r k
    · pointwise
      exact (congrFun (read_unread_whole _ _ _) _).trans (p0 1 r)
    · exact fun k => blk_values m c t ht k d
    · pointwise
      exact (congrFun (read_unread_whole _ _ _) _).trans (p2 1 r d)
  · obtain rfl : hh = 0 := Fin.ext (by simp at h0; omega)
    obtain rfl : x = ix3 0 r d := slab_idx 128 x r d h1 h2
    refine step_acc _ _ _ _ _ (fun k _ => hs 0 r k) ?_ ?_ ?_ ?_
    · intro k
      pointwise
      exact blk_scores m c t ht 0 r k
    · pointwise
      exact (congrFun (read_unread_whole _ _ _) _).trans (p0 0 r)
    · exact fun k => blk_values m c t ht k d
    · pointwise
      exact (congrFun (read_unread_whole _ _ _) _).trans (p2 0 r d)

/-- After the last block of keys: the running maximum. -/
theorem max_C (t : Fin cfg0.N) (ht : t.val < 8192) (h0 : ¬ t.val % 32 = 0) (h1 : t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (hh : Fin 2) (r : Fin 512) :
    (outsAt0 m c t.val t.isLt).2.1 (ix3 hh r 0) = top (rowScore m c t.val ht hh r) (t.val % 32 * 512 + 512) := by
  rw [outsAt0_C m c t h0 h1]
  frame_out
  canon_tiles x h
  · obtain rfl : hh = 1 := Fin.ext (by simp at h0; omega)
    obtain rfl : x = ix3 0 r 0 := slab_idx 1 x r 0 h1 h2
    rw [head1_max]
    refine step_max _ _ _ ?_ ?_
    · intro k
      pointwise
      exact blk_scores m c t ht 1 r k
    · pointwise
      exact (congrFun (read_unread_whole _ _ _) _).trans (p0 1 r)
  · obtain rfl : hh = 0 := Fin.ext (by simp at h0; omega)
    obtain rfl : x = ix3 0 r 0 := slab_idx 1 x r 0 h1 h2
    refine step_max _ _ _ ?_ ?_
    · intro k
      pointwise
      exact blk_scores m c t ht 0 r k
    · pointwise
      exact (congrFun (read_unread_whole _ _ _) _).trans (p0 0 r)

/-- After the last block of keys: the running sum. -/
theorem sum_C (t : Fin cfg0.N) (ht : t.val < 8192) (h0 : ¬ t.val % 32 = 0) (h1 : t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (p1 : ∀ (hh : Fin 2) (r : Fin 512), (outsAt0 m c (t.val - 1) (Nat.lt_of_le_of_lt (Nat.sub_le _ _) t.isLt)).2.2.1 (ix3 hh r 0) = mass (rowScore m c t.val ht hh r) (t.val % 32 * 512))
    (hs : ∀ (hh : Fin 2) (r : Fin 512) (k : ℕ), ∃ x : ℝ, rowScore m c t.val ht hh r k = x)
    (hh : Fin 2) (r : Fin 512) :
    (outsAt0 m c t.val t.isLt).2.2.1 (ix3 hh r 0) = mass (rowScore m c t.val ht hh r) (t.val % 32 * 512 + 512) := by
  rw [outsAt0_C m c t h0 h1]
  frame_out
  canon_tiles x h
  · obtain rfl : hh = 1 := Fin.ext (by simp at h0; omega)
    obtain rfl : x = ix3 0 r 0 := slab_idx 1 x r 0 h1 h2
    rw [head1_sum]
    refine step_sum _ _ _ _ (fun k _ => hs 1 r k) ?_ ?_ ?_
    · intro k
      pointwise
      exact blk_scores m c t ht 1 r k
    · pointwise
      exact (congrFun (read_unread_whole _ _ _) _).trans (p0 1 r)
    · pointwise
      exact (congrFun (read_unread_whole _ _ _) _).trans (p1 1 r)
  · obtain rfl : hh = 0 := Fin.ext (by simp at h0; omega)
    obtain rfl : x = ix3 0 r 0 := slab_idx 1 x r 0 h1 h2
    refine step_sum _ _ _ _ (fun k _ => hs 0 r k) ?_ ?_ ?_
    · intro k
      pointwise
      exact blk_scores m c t ht 0 r k
    · pointwise
      exact (congrFun (read_unread_whole _ _ _) _).trans (p0 0 r)
    · pointwise
      exact (congrFun (read_unread_whole _ _ _) _).trans (p1 0 r)

/-- After the last block of keys: the running weighted sum. -/
theorem acc_C (t : Fin cfg0.N) (ht : t.val < 8192) (h0 : ¬ t.val % 32 = 0) (h1 : t.val % 32 = 31)
    (p0 : ∀ (hh : Fin 2) (r : Fin 512), (outsAt0 m c (t.val - 1) (Nat.lt_of_le_of_lt (Nat.sub_le _ _) t.isLt)).2.1 (ix3 hh r 0) = top (rowScore m c t.val ht hh r) (t.val % 32 * 512))
    (p2 : ∀ (hh : Fin 2) (r : Fin 512) (d : Fin 128), (outsAt0 m c (t.val - 1) (Nat.lt_of_le_of_lt (Nat.sub_le _ _) t.isLt)).2.2.2 (ix3 hh r d) = weighted (rowScore m c t.val ht hh r) (laneValue m c t.val ht d) (t.val % 32 * 512))
    (hs : ∀ (hh : Fin 2) (r : Fin 512) (k : ℕ), ∃ x : ℝ, rowScore m c t.val ht hh r k = x)
    (hh : Fin 2) (r : Fin 512) (d : Fin 128) :
    (outsAt0 m c t.val t.isLt).2.2.2 (ix3 hh r d) = weighted (rowScore m c t.val ht hh r) (laneValue m c t.val ht d) (t.val % 32 * 512 + 512) := by
  rw [outsAt0_C m c t h0 h1]
  frame_out
  canon_tiles x h
  · obtain rfl : hh = 1 := Fin.ext (by simp at h0; omega)
    obtain rfl : x = ix3 0 r d := slab_idx 128 x r d h1 h2
    rw [head1_acc]
    refine step_acc _ _ _ _ _ (fun k _ => hs 1 r k) ?_ ?_ ?_ ?_
    · intro k
      pointwise
      exact blk_scores m c t ht 1 r k
    · pointwise
      exact (congrFun (read_unread_whole _ _ _) _).trans (p0 1 r)
    · exact fun k => blk_values m c t ht k d
    · pointwise
      exact (congrFun (read_unread_whole _ _ _) _).trans (p2 1 r d)
  · obtain rfl : hh = 0 := Fin.ext (by simp at h0; omega)
    obtain rfl : x = ix3 0 r d := slab_idx 128 x r d h1 h2
    refine step_acc _ _ _ _ _ (fun k _ => hs 0 r k) ?_ ?_ ?_ ?_
    · intro k
      pointwise
      exact blk_scores m c t ht 0 r k
    · pointwise
      exact (congrFun (read_unread_whole _ _ _) _).trans (p0 0 r)
    · exact fun k => blk_values m c t ht k d
    · pointwise
      exact (congrFun (read_unread_whole _ _ _) _).trans (p2 0 r d)

end Cert.KernelIdeal.Value

end
-- ==== Proof.Final.lean ====
/- What the attention kernel's array holds after the run: per query and column, the weighted sum of the
   values over all keys divided by the sum of the exponentials of the query's scores. -/
module

public import proofs.«01_k».proof.Proof.Scratch

@[expose] public section

set_option maxRecDepth 16384

noncomputable section

namespace Cert.KernelIdeal.Value

open Idealize.ShloMosaic Idealize.ShloMosaic.TcCoe Idealize.SL.Sem Cert.Softmax Cert.KernelIdeal.Gen

variable (m : (ℓ : Loc nD τ sig) → Buf (Elt Ideal) ℓ) (c : Dev nD)

/-- Two grid points of one block of queries score the same rows. -/
theorem rowScore_same (t u : ℕ) (ht : t < 8192) (hu : u < 8192) (e : t / 32 = u / 32) (hh : Fin 2) (r : Fin 512) :
    rowScore m c t ht hh r = rowScore m c u hu hh r := by
  unfold rowScore
  rw [show bt t ht = bt u hu from Fin.ext (by unfold bt; dsimp only; omega),
    show hd t hh = hd u hh from Fin.ext (by unfold hd; dsimp only; omega),
    show qr t r = qr u r from Fin.ext (by unfold qr; dsimp only; omega)]

/-- Two grid points of one block of queries read the same columns of the values. -/
theorem laneValue_same (t u : ℕ) (ht : t < 8192) (hu : u < 8192) (e : t / 32 = u / 32) (d : Fin 128) :
    laneValue m c t ht d = laneValue m c u hu d := by
  unfold laneValue
  rw [show bt t ht = bt u hu from Fin.ext (by unfold bt; dsimp only; omega),
    show vc t d = vc u d from Fin.ext (by unfold vc; dsimp only; omega)]

/-- The scratch buffers after a grid point hold the running maximum, sum and weighted sum of every row. -/
def Held (n : ℕ) (h : n < cfg0.N) (ht : n < 8192) : Prop :=
  (∀ (hh : Fin 2) (r : Fin 512), (outsAt0 m c n h).2.1 (ix3 hh r 0) = top (rowScore m c n ht hh r) (n % 32 * 512 + 512))
  ∧ (∀ (hh : Fin 2) (r : Fin 512), (outsAt0 m c n h).2.2.1 (ix3 hh r 0) = mass (rowScore m c n ht hh r) (n % 32 * 512 + 512))
  ∧ ∀ (hh : Fin 2) (r : Fin 512) (d : Fin 128), (outsAt0 m c n h).2.2.2 (ix3 hh r d) = weighted (rowScore m c n ht hh r) (laneValue m c n ht d) (n % 32 * 512 + 512)

variable (hs : ∀ (t : ℕ) (ht : t < 8192) (hh : Fin 2) (r : Fin 512) (k : ℕ), ∃ x : ℝ, rowScore m c t ht hh r k = x)
include hs

/-- Every grid point leaves the running maximum, sum and weighted sum. -/
theorem held (n : ℕ) (h : n < cfg0.N) (ht : n < 8192) : Held m c n h ht := by
  induction n with
  | zero => exact ⟨max_A m c ⟨0, h⟩ ht rfl (show ¬ 0 % 32 = 31 by decide), sum_A m c ⟨0, h⟩ ht rfl (show ¬ 0 % 32 = 31 by decide) (hs 0 ht), acc_A m c ⟨0, h⟩ ht rfl (show ¬ 0 % 32 = 31 by decide) (hs 0 ht)⟩
  | succ n ih =>
    by_cases h0 : (n + 1) % 32 = 0
    · have h1 : ¬ (n + 1) % 32 = 31 := by omega
      exact ⟨max_A m c ⟨n + 1, h⟩ ht h0 h1, sum_A m c ⟨n + 1, h⟩ ht h0 h1 (hs _ ht), acc_A m c ⟨n + 1, h⟩ ht h0 h1 (hs _ ht)⟩
    · obtain ⟨q0, q1, q2⟩ := ih (by omega) (by omega)
      have es : ∀ hh r, rowScore m c n (by omega) hh r = rowScore m c (n + 1) ht hh r := rowScore_same m c n (n + 1) (by omega) ht (by omega)
      have ev : ∀ d, laneValue m c n (by omega) d = laneValue m c (n + 1) ht d := laneValue_same m c n (n + 1) (by omega) ht (by omega)
      have ek : n % 32 * 512 + 512 = (n + 1) % 32 * 512 := by omega
      simp only [es, ev, ek] at q0 q1 q2
      by_cases h1 : (n + 1) % 32 = 31
      · exact ⟨max_C m c ⟨n + 1, h⟩ ht h0 h1 q0, sum_C m c ⟨n + 1, h⟩ ht h0 h1 q0 q1 (hs _ ht), acc_C m c ⟨n + 1, h⟩ ht h0 h1 q0 q2 (hs _ ht)⟩
      · exact ⟨max_B m c ⟨n + 1, h⟩ ht h0 h1 q0, sum_B m c ⟨n + 1, h⟩ ht h0 h1 q0 q1 (hs _ ht), acc_B m c ⟨n + 1, h⟩ ht h0 h1 q0 q2 (hs _ ht)⟩

omit hs in
/-- The indices of the lower slab of a two-slab buffer. -/
theorem slab_lower (n : ℕ) (g : ∀ a : Fin 3, (![0, 0, 0] : Fin 3 → ℕ) a + (![1, 512, n] : Fin 3 → ℕ) a ≤ (![2, 512, n] : Fin 3 → ℕ) a) :
    (Rect.unit (s := ⟨3, ![2, 512, n]⟩) ![0, 0, 0] ![1, 512, n] g).idx = fun j => ix3 0 (j 1) (j 2) := by
  funext j a
  apply Fin.ext
  rw [Rect.idx_unit_val]
  match a with
  | ⟨0, _⟩ => have : (j 0 : ℕ) < 1 := (j 0).isLt
              show 0 + (j 0 : ℕ) = 0; omega
  | ⟨1, _⟩ => exact Nat.zero_add _
  | ⟨2, _⟩ => exact Nat.zero_add _

omit hs in
/-- The indices of the upper slab of a two-slab buffer. -/
theorem slab_upper (n : ℕ) (g : ∀ a : Fin 3, (![1, 0, 0] : Fin 3 → ℕ) a + (![1, 512, n] : Fin 3 → ℕ) a ≤ (![2, 512, n] : Fin 3 → ℕ) a) :
    (Rect.unit (s := ⟨3, ![2, 512, n]⟩) ![1, 0, 0] ![1, 512, n] g).idx = fun j => ix3 1 (j 1) (j 2) := by
  funext j a
  apply Fin.ext
  rw [Rect.idx_unit_val]
  match a with
  | ⟨0, _⟩ => have : (j 0 : ℕ) < 1 := (j 0).isLt
              show 1 + (j 0 : ℕ) = 1; omega
  | ⟨1, _⟩ => exact Nat.zero_add _
  | ⟨2, _⟩ => exact Nat.zero_add _

omit hs in
/-- The last block of keys writes out the quotients of the buffers it leaves. -/
theorem out_C (t : Fin cfg0.N) (h0 : ¬ t.val % 32 = 0) (h1 : t.val % 32 = 31) (r : Fin 512) (d : Fin 128) :
    (outsAt0 m c t.val t.isLt).1 (ix3 0 r d) = if (d : ℕ) < 64
      then Ideal.div ((outsAt0 m c t.val t.isLt).2.2.2 (ix3 0 r d)) ((outsAt0 m c t.val t.isLt).2.2.1 (ix3 0 r 0))
      else Ideal.div ((outsAt0 m c t.val t.isLt).2.2.2 (ix3 1 r d)) ((outsAt0 m c t.val t.isLt).2.2.1 (ix3 1 r 0)) := by
  rw [outsAt0_C m c t h0 h1]
  frame_out
  rw [out_at]
  simp only [View.readCov_eq_canon']
  have e0 : ∀ n g, (Rect.unit (s := ⟨3, ![2, 512, n]⟩) ![0, 0, 0] ![1, 512, n] g).idx = fun j => ix3 0 (j 1) (j 2) := slab_lower
  have e1 : ∀ n g, (Rect.unit (s := ⟨3, ![2, 512, n]⟩) ![1, 0, 0] ![1, 512, n] g).idx = fun j => ix3 1 (j 1) (j 2) := slab_upper
  simp only [e0 128, e0 1, e1 128, e1 1]
  rfl

/-- The result at a query and a column: the values of the column weighted by the softmax of the scores of
    the query and the column's head. -/
def attended (Q K : FVec Ideal S2x8x16384x128 .bf16) (W : FVec Ideal S2x16384x512 .bf16) (b : Fin 2) (i : Fin 16384) (e : Fin 512) : EReal :=
  let s := score Q K b ⟨(e : ℕ) / 64, by omega⟩ i
  ∑ k ∈ Finset.range 16384, value W b e k * Ideal.div (Ideal.exp (s k - top s 16384)) (mass s 16384)

/-- What a block of queries' last grid point writes out. -/
theorem out_last (t : Fin cfg0.N) (ht : t.val < 8192) (h1 : t.val % 32 = 31) (r : Fin 512) (d : Fin 128) :
    (outsAt0 m c t.val t.isLt).1 (ix3 0 r d) = attended (argQ m c) (argK m c) (argV m c) (bt t.val ht) (qr t.val r) (vc t.val d) := by
  obtain ⟨_, q1, q2⟩ := held m c hs t.val t.isLt ht
  have ek : t.val % 32 * 512 + 512 = 16384 := by omega
  have ed := d.isLt
  rw [ek] at q1 q2
  rw [out_C m c t (by omega) h1]
  simp only [q1, q2]
  rw [quotient _ (by omega) (fun k _ => hs _ ht 0 r k), quotient _ (by omega) (fun k _ => hs _ ht 1 r k)]
  unfold attended rowScore laneValue
  split
  · rw [show hd t.val 0 = ⟨(vc t.val d : ℕ) / 64, by omega⟩ from Fin.ext (by unfold hd vc; simp only [Fin.val_zero]; omega)]
  · rw [show hd t.val 1 = ⟨(vc t.val d : ℕ) / 64, by omega⟩ from Fin.ext (by unfold hd vc; simp only [Fin.val_one]; omega)]

/-- The kernel's array after the run. -/
theorem final (G : FVec Ideal S2x16384x512 .bf16)
    (hG : ∀ (b : Fin 2) (i : Fin 16384) (e : Fin 512), G (ix3 b i e) = attended (argQ m c) (argK m c) (argV m c) b i e) :
    (dats m 0 c).arrAt 3 cfg0.N = G := by
  refine (dats m 0 c).arrAt_eq_of_covers 3 _ (by decide +kernel) fun t hf y => ?_
  have h1 := (flush0_3 t).mp hf
  have ht : t.val < 8192 := (idx t).2.2.2.2
  blk_simp
  rw [after0_3]
  obtain ⟨r, d, rfl⟩ : ∃ (r : Fin 512) (d : Fin 128), y = (ix3 0 r d : S1x512x128.Idx) :=
    ⟨y 1, y 2, slab_idx 128 y (y 1) (y 2) rfl rfl⟩
  refine (out_last m c hs t ht h1 r d).trans ?_
  rw [← hG]
  congr 1
  blk_ext [idx t, bt, qr, vc]

end Cert.KernelIdeal.Value

end
-- ==== Proof.Equation.lean ====
/- The equation: the reference's result is what the attention kernel's array holds, when the queries and
   the keys are finite. -/
module

public import proofs.«01_k».proof.Proof.Final
public import proofs.«01_k».proof.Proof.Ref
public import proofs.«01_k».proof.Pre_finite_queries_and_keys

@[expose] public section

set_option maxRecDepth 16384

noncomputable section

namespace Cert.Equation

open Idealize.ShloMosaic Idealize.ShloMosaic.TcCoe Idealize.SL.Sem Cert.Softmax Cert.KernelIdeal Cert.KernelIdeal.Value

/-- The largest of the first `n` scores, as a supremum over the numbers below `n`. -/
theorem top_fin (s : ℕ → EReal) (n : ℕ) : top s n = Finset.univ.sup fun k : Fin n => s k := by
  have e := top_add s 0 n
  simp only [zero_add, top_zero] at e
  rw [e]
  exact max_eq_right bot_le

/-- The mass of the first `n` scores, as a sum over the numbers below `n`. -/
theorem mass_fin (s : ℕ → EReal) (n : ℕ) : mass s n = ∑ k : Fin n, Ideal.exp (s k - top s n) := Finset.sum_range _

/-- The reference's result is the values weighted by the softmax of the scores. -/
theorem ref_at (Q K : FVec Ideal S2x8x16384x128 .bf16) (W : FVec Ideal S2x16384x512 .bf16) (b : Fin 2) (i : Fin 16384) (e : Fin 512) :
    ReferenceIdeal.Value.REF Q K W (ix3 b i e) = attended Q K W b i e := by
  have hsc : ∀ k : Fin 16384, ReferenceIdeal.Value.SCORES Q K (ix4 b ⟨(e : ℕ) / 64, by omega⟩ i k) = score Q K b ⟨(e : ℕ) / 64, by omega⟩ i k := by
    intro k
    rw [ReferenceIdeal.Value.scores_at, score, dif_pos k.isLt]
  have hv : ∀ k : Fin 16384, W (ix3 b k e) = value W b e k := by
    intro k
    rw [value, dif_pos k.isLt]
  unfold ReferenceIdeal.Value.REF attended
  rw [ReferenceIdeal.Value.mixed_at _ _ b i e ⟨(e : ℕ) / 64, by omega⟩ rfl, Finset.sum_range]
  simp only [ReferenceIdeal.Value.weights_at, ReferenceIdeal.Value.powers_at, ReferenceIdeal.Value.largest_at, hsc, hv, mass_fin, top_fin]

/-- A number whose absolute value is below infinity is a real number. -/
theorem real_of_abs_lt (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

/-- The precondition says that every query and every key is a real number. -/
theorem real_of_pre [Pre_finite_queries_and_keys.Facts] (Q K : FVec Ideal S2x8x16384x128 .bf16) (W : FVec Ideal S2x16384x512 .bf16)
    (h : Pre_finite_queries_and_keys.fn (F := Ideal) Q K W = fun _ => 1#1) (j : S2x8x16384x128.Idx) :
    (∃ r : ℝ, (Q j : EReal) = r) ∧ ∃ r : ℝ, (K j : EReal) = r := by
  have e : IntOp.andi (Ideal.cmp .olt (max (Q j) (-Q j)) (Ideal.ofBits .f32 0x7F800000#32)) (Ideal.cmp .olt (max (K j) (-K j)) (Ideal.ofBits .f32 0x7F800000#32)) = 1#1 := congrFun h j
  have key : ∀ x y : BitVec 1, IntOp.andi x y = 1#1 → x = 1#1 ∧ y = 1#1 := by decide
  obtain ⟨a, b⟩ := key _ _ e
  exact ⟨real_of_abs_lt _ a, real_of_abs_lt _ b⟩

/-- A finite sum of products of real numbers is a real number. -/
theorem real_sum {ι : Type*} [Fintype ι] (f g : ι → EReal) (hf : ∀ d, ∃ r : ℝ, f d = r) (hg : ∀ d, ∃ r : ℝ, g d = r) :
    ∃ r : ℝ, ∑ d, f d * g d = r := by
  choose f' hf' using hf
  choose g' hg' using hg
  refine ⟨∑ d, f' d * g' d, ?_⟩
  rw [coe_sum]
  exact Finset.sum_congr rfl fun d _ => by rw [hf', hg', EReal.coe_mul]

/-- Scores of real queries and keys are real numbers. -/
theorem score_real (Q K : FVec Ideal S2x8x16384x128 .bf16) (hQ : ∀ j, ∃ r : ℝ, (Q j : EReal) = r) (hK : ∀ j, ∃ r : ℝ, (K j : EReal) = r)
    (b : Fin 2) (h : Fin 8) (i : Fin 16384) (k : ℕ) : ∃ r : ℝ, score Q K b h i k = r := by
  unfold score
  split
  · exact real_sum _ _ (fun d => hQ _) (fun d => hK _)
  · exact ⟨0, rfl⟩

/-- With finite queries and keys the kernel's array after the run is the reference's result. -/
theorem final_eq [Pre_finite_queries_and_keys.Facts] (m : (ℓ : Loc nD τ sig) → Buf (Elt Ideal) ℓ) (c : Dev nD)
    (h : Pre_finite_queries_and_keys.fn (F := Ideal) (m ((c.tc : Thread nD τ).loc main_arg0)) (m ((c.tc : Thread nD τ).loc main_arg1))
      (m ((c.tc : Thread nD τ).loc main_arg2)) = fun _ => 1#1) :
    (KernelIdeal.Gen.dats m 0 c).arrAt 3 cfg0.N = ReferenceIdeal.Value.REF (m ((c.tc : Thread nD τ).loc main_arg0))
      (m ((c.tc : Thread nD τ).loc main_arg1)) (m ((c.tc : Thread nD τ).loc main_arg2)) := by
  have p : ∀ j, (∃ r : ℝ, (argQ m c j : EReal) = r) ∧ ∃ r : ℝ, (argK m c j : EReal) = r := real_of_pre _ _ _ h
  exact final m c (fun t ht hh r k => score_real _ _ (fun j => (p j).1) (fun j => (p j).2) _ _ _ k) _ (ref_at _ _ _)

end Cert.Equation

end
-- ==== Proof.NormRef.lean ====
/- The projection's reference, read at an index: a row's norm times a column of the weights. -/
module

public import proofs.«01_k».proof.Proof.MergeRef
public import proofs.«01_k».proof.Proof.Gen.Reference2Ideal.Run

@[expose] public section

set_option maxRecDepth 16384

noncomputable section

namespace Cert.Reference2Ideal.Value

open Idealize.ShloMosaic Idealize.ShloMosaic.TcCoe Idealize.SL.Sem Cert.Merge Cert.Reference2Ideal.Facts₀ Cert.Reference2Ideal.Facts

/-- The norm of the row `x` weighted by `g`, projected onto the column `w`. -/
def projected (x g w : Fin 1024 → EReal) : EReal := ∑ d, normed (Ideal.ofBits .f32 0x3A800000#32) x g d * w d

/-- The normalised rows. -/
def NORMED (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The wide result. -/
def WIDE (X : FVec Ideal S32768x1024 .f32) (g : FVec Ideal S1024 .f32) (w : FVec Ideal S1024x8320 .bf16) : FVec Ideal S32768x8320 .bf16 :=
  truncf .bf16 (Host.dotGeneral dot_S32768x1024_S1024x8320_S32768x8320_1_0_0_1_n_n none (NORMED X g) (extf .f32 w bitsLt_bf16_f32)) bitsLt_bf16_f32

/-- The narrow result. -/
def NARROW (X : FVec Ideal S32768x1024 .f32) (g : FVec Ideal S1024 .f32) (w : FVec Ideal S1024x128 .bf16) : FVec Ideal S32768x128 .f32 :=
  Host.dotGeneral dot_S32768x1024_S1024x128_S32768x128_1_0_0_1_n_n none (NORMED X g) (extf .f32 w bitsLt_bf16_f32)

variable (X : FVec Ideal S32768x1024 .f32) (g : FVec Ideal S1024 .f32)

/-- The normalised rows at an index. -/
theorem normed_at (i : Fin 32768) (j : Fin 1024) :
    NORMED X g (ix2 i j) = normed (Ideal.ofBits .f32 0x3A800000#32) (fun j : Fin 1024 => X (ix2 i j)) (fun j => g (ix1 j)) j := by
  unfold normed eps
  simp only [← Reference3Ideal.Value.over_1024]
  pointwise [NORMED]

/-- The wide result at an index. -/
theorem wide_at (w : FVec Ideal S1024x8320 .bf16) (i : Fin 32768) (n : Fin 8320) :
    WIDE X g w (ix2 i n) = projected (fun j => X (ix2 i j)) (fun j => g (ix1 j)) (fun j => w (ix2 j n)) := by
  unfold projected
  simp only [← normed_at]
  pointwise [WIDE]

/-- The narrow result at an index. -/
theorem narrow_at (w : FVec Ideal S1024x128 .bf16) (i : Fin 32768) (n : Fin 128) :
    NARROW X g w (ix2 i n) = projected (fun j => X (ix2 i j)) (fun j => g (ix1 j)) (fun j => w (ix2 j n)) := by
  unfold projected
  simp only [← normed_at]
  pointwise [NARROW]

end Cert.Reference2Ideal.Value

end
-- ==== Proof.MemoryValue.lean ====
/- The equation of the projection of the memory tokens: the kernel's array after the run is the reference's result. -/
module

public import proofs.«01_k».proof.Proof.NormRef
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Reference5Ideal.Value

open Idealize.ShloMosaic Idealize.ShloMosaic.TcCoe Idealize.SL.Sem Cert.Merge Cert.Reference5Ideal.Facts₀ Cert.Reference5Ideal.Facts

/-- The normalised memory tokens. -/
def NORMED (X : FVec Ideal S512x1024 .f32) (g : FVec Ideal S1024 .f32) : FVec Ideal S512x1024 .f32 :=
  mulf (mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The result. -/
def MEMORY (X : FVec Ideal S512x1024 .f32) (g : FVec Ideal S1024 .f32) (w : FVec Ideal S1024x1024 .bf16) : FVec Ideal S512x1024 .f32 :=
  Host.dotGeneral dot_S512x1024_S1024x1024_S512x1024_1_0_0_1_n_n none (NORMED X g) (extf .f32 w bitsLt_bf16_f32)

variable (X : FVec Ideal S512x1024 .f32) (g : FVec Ideal S1024 .f32)

/-- The normalised memory tokens at an index. -/
theorem normed_at (i : Fin 512) (j : Fin 1024) :
    NORMED X g (ix2 i j) = normed (Ideal.ofBits .f32 0x3A800000#32) (fun j : Fin 1024 => X (ix2 i j)) (fun j => g (ix1 j)) j := by
  unfold normed eps
  simp only [← Reference3Ideal.Value.over_1024]
  pointwise [NORMED]

/-- The result at an index. -/
theorem memory_at (w : FVec Ideal S1024x1024 .bf16) (i : Fin 512) (n : Fin 1024) :
    MEMORY X g w (ix2 i n) = Reference2Ideal.Value.projected (fun j => X (ix2 i j)) (fun j => g (ix1 j)) (fun j => w (ix2 j n)) := by
  unfold Reference2Ideal.Value.projected
  simp only [← normed_at]
  pointwise [MEMORY]

end Cert.Reference5Ideal.Value

namespace Cert.Kernel5Ideal.Value

open Idealize.ShloMosaic Idealize.ShloMosaic.TcCoe Idealize.SL.Sem Cert.Merge Cert.Kernel5Ideal.Gen Cert.Reference5Ideal.Value

/-- The normalised rows of the block. -/
theorem pay1_at (x : FVec Ideal S512x1024 .f32) (g : FVec Ideal S1x1024 .f32) (r : Fin 512) (d : Fin 1024) :
    k0_pay1 (F := Ideal) x g (ix2 r d)
      = normed (Ideal.ofBits .f32 0x3A800000#32) (fun k : Fin 1024 => x (ix2 r k)) (fun k => g (ix2 0 k)) d := by
  unfold normed eps
  pointwise [k0_pay1]

/-- The product of the rows. -/
theorem pay2_at (h : FVec Ideal S512x1024 .bf16) (w : FVec Ideal S1024x1024 .bf16) (r : Fin 512) (n : Fin 1024) :
    k0_pay2 (F := Ideal) h w (ix2 r n) = ∑ d : Fin 1024, h (ix2 r d) * w (ix2 d n) := by
  pointwise [k0_pay2]

/-- The windows' blocks lie at the start of their arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

variable (m : (ℓ : Loc nD τ sig) → Buf (Elt Ideal) ℓ) (c : Dev nD)

/-- The norm's weights as the kernel reads them. -/
theorem V_v0 : V m c main_v0 = shapeCast S1x1024 (m ((c.tc : Thread nD τ).loc main_arg1)) shapeCasts_S1024_S1x1024 := by
  dsimp only [V, hostOps0]
  after_results
  rfl

/-- The block of rows. -/
theorem blk0 (t : Fin cfg0.N) (r : Fin 512) (d : Fin 1024) :
    iblk m c 0 t (ix2 r d) = m ((c.tc : Thread nD τ).loc main_arg0) (ix2 r d) := by
  rw [← V_main_arg0 m c]
  blk_point [iblk, idx t]

/-- The norm's weights. -/
theorem blk1 (t : Fin cfg0.N) (d : Fin 1024) :
    iblk m c 1 t (ix2 0 d) = m ((c.tc : Thread nD τ).loc main_arg1) (ix1 d) := by
  refine Eq.trans (b := V m c main_v0 (ix2 0 d)) ?_ ?_
  · blk_point [iblk, idx t]
  · rw [V_v0]
    pointwise

/-- The weights. -/
theorem blk2 (t : Fin cfg0.N) (d n : Fin 1024) :
    iblk m c 2 t (ix2 d n) = m ((c.tc : Thread nD τ).loc main_arg2) (ix2 d n) := by
  rw [← V_main_arg2 m c]
  blk_point [iblk, idx t]

/-- What the grid point writes out. -/
theorem out_eq (t : Fin cfg0.N) : outsAt0 m c t = k0_pay2 (k0_pay1 (iblk m c 0 t) (iblk m c 1 t)) (iblk m c 2 t) := by
  unfold outsAt0
  frame_out

/-- The kernel's array after the run is the reference's result. -/
theorem final : (dats m 0 c).arrAt 3 cfg0.N = MEMORY (m ((c.tc : Thread nD τ).loc main_arg0)) (m ((c.tc : Thread nD τ).loc main_arg1))
    (m ((c.tc : Thread nD τ).loc main_arg2)) := by
  refine (dats m 0 c).arrAt_eq_of_covers 3 _ (by decide +kernel) fun t _ y => ?_
  blk_simp
  rw [after0_3]
  obtain ⟨r, n, rfl⟩ : ∃ (r : Fin 512) (n : Fin 1024), y = (ix2 r n : S512x1024.Idx) := ⟨y 0, y 1, eq_ix2 y⟩
  rw [out_eq]
  refine (pay2_at _ _ r n).trans ?_
  simp only [pay1_at, blk0, blk1, blk2]
  refine (memory_at _ _ _ r n).symm.trans ?_
  congr 1
  blk_ext [idx t]

end Cert.Kernel5Ideal.Value

end
-- ==== Proof.MergeStep.lean ====
/- What the merge kernel computes from the blocks of one grid point: its three stored payloads, read at a
   row, are the merge of that row. -/
module

public import proofs.«01_k».proof.Proof.MergeSpec
public import proofs.«01_k».proof.Proof.Gen.Kernel3Ideal.Skeleton

@[expose] public section

set_option maxRecDepth 16384

noncomputable section

namespace Cert.Kernel3Ideal.Gen

open Idealize.ShloMosaic Idealize.ShloMosaic.TcCoe Idealize.SL.Sem Cert.Merge

/-- The pattern of minus infinity. -/
theorem ofBits_negInf : Ideal.ofBits .f32 0xFF800000#32 = (⊥ : EReal) := by simp [Ideal.ofBits, Ideal.ieee]

/-- The row `r` of the blocks. -/
def row (x : FVec Ideal S1x256x1024 .f32) (og : FVec Ideal S1x256x1024 .bf16) (om : FVec Ideal S1x256x512 .bf16)
    (g0 g1 g2 : FVec Ideal S1x256x1024 .bf16) (mq : FVec Ideal S1x256x512 .bf16) (mkv : FVec Ideal S1x256x1024 .f32) (r : Fin 256) : Row where
  x j := x (ix3 0 r j)
  og j := og (ix3 0 r j)
  om j := om (ix3 0 r j)
  gate k j := (![g0 (ix3 0 r j), g1 (ix3 0 r j), g2 (ix3 0 r j)] : Fin 3 → EReal) k
  mq j := mq (ix3 0 r j)
  mkv i j := mkv (ix3 0 i j)

/-- The weights. -/
def weights (wg : FVec Ideal S1024x1024 .bf16) (wm we : FVec Ideal S512x1024 .bf16) (wo : FVec Ideal S1024x1024 .bf16)
    (wq : FVec Ideal S1024x2048 .bf16) (gq gk : FVec Ideal S1x128 .f32) (gf : FVec Ideal S1x1024 .f32) : Weights where
  wg i j := wg (ix2 i j)
  wm i j := wm (ix2 i j)
  we i j := we (ix2 i j)
  wo i j := wo (ix2 i j)
  wq i j := wq (ix2 i j)
  gq j := gq (ix2 0 j)
  gk j := gk (ix2 0 j)
  gf j := gf (ix2 0 j)

section Heads
variable (mq : FVec Ideal S1x256x512 .bf16) (mkv : FVec Ideal S1x256x1024 .f32) (gq gk : FVec Ideal S1x128 .f32)

/-- The scores of a head. -/
def headScore (h : Fin 4) (r j : Fin 256) : EReal :=
  score (normed (Ideal.ofBits .f32 0x3C000000#32) (fun d : Fin 128 => mq (ix3 0 r ⟨h * 128 + d, by omega⟩)) (fun d => gq (ix2 0 d)))
    (normed (Ideal.ofBits .f32 0x3C000000#32) (fun d : Fin 128 => mkv (ix3 0 j ⟨h * 128 + d, by omega⟩)) (fun d => gk (ix2 0 d)))

/-- The first head's scores. -/
theorem score0_at (r j : Fin 256) : k0_pay5 (F := Ideal) mq mkv gq gk (ix2 r j) = headScore mq mkv gq gk 0 r j := by
  unfold headScore score normed eps scale
  pointwise [k0_pay5, k0_pay2, k0_pay3]

/-- The second head's scores. -/
theorem score1_at (r j : Fin 256) :
    k0_pay8 (F := Ideal) (k0_pay2 (F := Ideal) mq) (k0_pay3 (F := Ideal) mkv) gq gk (ix2 r j) = headScore mq mkv gq gk 1 r j := by
  unfold headScore score normed eps scale
  pointwise [k0_pay8, k0_pay2, k0_pay3]

/-- The third head's scores. -/
theorem score2_at (r j : Fin 256) :
    mulf (k0_pay11 (F := Ideal) (k0_pay2 (F := Ideal) mq) (k0_pay3 (F := Ideal) mkv) gq gk) (k0_pay12 (F := Ideal)) (ix2 r j)
      = headScore mq mkv gq gk 2 r j := by
  unfold headScore score normed eps scale
  pointwise [k0_pay11, k0_pay12, k0_pay2, k0_pay3]

/-- The fourth head's scores. -/
theorem score3_at (r j : Fin 256) :
    mulf (k0_pay15 (F := Ideal) (k0_pay2 (F := Ideal) mq) (k0_pay3 (F := Ideal) mkv) gq gk)
        (broadcast S256x256 (Scalar.ofBits (F := Ideal) .f32 0x3DB504F3#32)) (ix2 r j)
      = headScore mq mkv gq gk 3 r j := by
  unfold headScore score normed eps scale
  pointwise [k0_pay15, k0_pay2, k0_pay3]

end Heads

/-- A head's weighted values, from its scores. -/
theorem mix_at (v : FVec Ideal S256x128 .f32) (s : FVec Ideal S256x256 .f32) (r : Fin 256) (d : Fin 128) :
    k0_pay6 (F := Ideal) v s (ix2 r d) = ∑ j : Fin 256, soft (fun k => s (ix2 r k)) j * v (ix2 j d) := by
  unfold soft
  pointwise [k0_pay6]
  simp only [ofBits_negInf]
  rfl

/-- The second head runs the same arithmetic. -/
theorem mix1 (v : FVec Ideal S256x128 .f32) (s : FVec Ideal S256x256 .f32) :
    k0_pay9 (F := Ideal) v s = k0_pay6 (F := Ideal) v s := rfl

/-- The third head runs the same arithmetic. -/
theorem mix2 (v : FVec Ideal S256x128 .f32) (s u : FVec Ideal S256x256 .f32) :
    k0_pay13 (F := Ideal) v s u = k0_pay6 (F := Ideal) v (mulf s u) := rfl

/-- The fourth head runs the same arithmetic, and the four heads side by side are projected. -/
theorem mix3 (o0 o1 o2 v : FVec Ideal S256x128 .f32) (s : FVec Ideal S256x256 .f32) (z : Ideal .f32) (we : FVec Ideal S512x1024 .bf16) :
    k0_pay16 (F := Ideal) o0 o1 o2 v s z we
      = matmul dot_S256x512_S512x1024_S256x1024_1_0_0_1_n_n none
          (truncf .bf16 (concatenate S256x512 1 [⟨S256x128, o0⟩, ⟨S256x128, o1⟩, ⟨S256x128, o2⟩,
            ⟨S256x128, k0_pay6 (F := Ideal) v (mulf s (broadcast S256x256 z))⟩]
            concatenates_S256x128_S256x128_S256x128_S256x128_S256x512_d1) bitsLt_bf16_f32) we (constant S256x1024 .f32 0x00000000#32) := rfl

/-- The projection of four heads side by side. -/
theorem project_at (o0 o1 o2 o3 : FVec Ideal S256x128 .f32) (we : FVec Ideal S512x1024 .bf16) (r : Fin 256) (f : Fin 1024)
    (G : Fin 4 → Fin 128 → EReal) (h0 : ∀ d, o0 (ix2 r d) = G 0 d) (h1 : ∀ d, o1 (ix2 r d) = G 1 d)
    (h2 : ∀ d, o2 (ix2 r d) = G 2 d) (h3 : ∀ d, o3 (ix2 r d) = G 3 d) :
    matmul dot_S256x512_S512x1024_S256x1024_1_0_0_1_n_n none
        (truncf .bf16 (concatenate S256x512 1 [⟨S256x128, o0⟩, ⟨S256x128, o1⟩, ⟨S256x128, o2⟩, ⟨S256x128, o3⟩]
          concatenates_S256x128_S256x128_S256x128_S256x128_S256x512_d1) bitsLt_bf16_f32) we (constant S256x1024 .f32 0x00000000#32) (ix2 r f)
      = ∑ e : Fin 512, G ⟨e / 128, by omega⟩ ⟨e % 128, by omega⟩ * we (ix2 e f) := by
  pointwise
  refine Finset.sum_congr rfl fun e _ => ?_
  congr 1
  have key : ∀ (k : Fin 4) (d : Fin 128), (e : ℕ) = k * 128 + d → G k d = G ⟨e / 128, by omega⟩ ⟨e % 128, by omega⟩ := by
    intro k d h
    congr 1
    · exact Fin.ext (by show (k : ℕ) = e / 128; omega)
    · exact Fin.ext (by show (d : ℕ) = e % 128; omega)
  split
  · rw [h0]; exact key 0 _ (by simp)
  split
  · rw [h1]; exact key 1 _ (by simp; omega)
  split
  · rw [h2]; exact key 2 _ (by simp; omega)
  · rw [h3]; exact key 3 _ (by simp; omega)

section Rows
variable (x : FVec Ideal S1x256x1024 .f32) (og : FVec Ideal S1x256x1024 .bf16) (om : FVec Ideal S1x256x512 .bf16)
    (g0 g1 g2 : FVec Ideal S1x256x1024 .bf16) (mq : FVec Ideal S1x256x512 .bf16) (mkv : FVec Ideal S1x256x1024 .f32)
    (wg : FVec Ideal S1024x1024 .bf16) (wm we : FVec Ideal S512x1024 .bf16) (wo : FVec Ideal S1024x1024 .bf16)
    (wq : FVec Ideal S1024x2048 .bf16) (gq gk : FVec Ideal S1x128 .f32) (gf : FVec Ideal S1x1024 .f32)

/-- The kernel's memory branch. -/
def blockMem : FVec Ideal S256x1024 .f32 :=
  k0_pay16 (F := Ideal) (k0_pay6 (F := Ideal) (k0_pay4 (F := Ideal) mkv) (k0_pay5 (F := Ideal) mq mkv gq gk))
    (k0_pay9 (F := Ideal) (k0_pay7 (F := Ideal) (k0_pay3 (F := Ideal) mkv)) (k0_pay8 (F := Ideal) (k0_pay2 (F := Ideal) mq) (k0_pay3 (F := Ideal) mkv) gq gk))
    (k0_pay13 (F := Ideal) (k0_pay10 (F := Ideal) (k0_pay3 (F := Ideal) mkv)) (k0_pay11 (F := Ideal) (k0_pay2 (F := Ideal) mq) (k0_pay3 (F := Ideal) mkv) gq gk) (k0_pay12 (F := Ideal)))
    (k0_pay14 (F := Ideal) (k0_pay3 (F := Ideal) mkv)) (k0_pay15 (F := Ideal) (k0_pay2 (F := Ideal) mq) (k0_pay3 (F := Ideal) mkv) gq gk)
    (Scalar.ofBits (F := Ideal) .f32 0x3DB504F3#32) we

variable (r : Fin 256)

/-- The memory branch of a row. -/
theorem mem_at (f : Fin 1024) :
    blockMem mq mkv we gq gk (ix2 r f) = ymem (row x og om g0 g1 g2 mq mkv r) (weights wg wm we wo wq gq gk gf) f := by
  unfold blockMem
  rw [mix3, mix2, mix1]
  refine project_at _ _ _ _ _ _ _ (omem (row x og om g0 g1 g2 mq mkv r) (weights wg wm we wo wq gq gk gf)) ?_ ?_ ?_ ?_
  · intro d
    rw [mix_at]
    simp only [score0_at]
    refine Finset.sum_congr rfl fun j _ => congrArg _ ?_
    pointwise [k0_pay4, k0_pay3, row]
  · intro d
    rw [mix_at]
    simp only [score1_at]
    refine Finset.sum_congr rfl fun j _ => congrArg _ ?_
    pointwise [k0_pay7, k0_pay3, row]
    exact congrArg (fun z => mkv (ix3 0 j z)) (Fin.ext (by show 640 + (d : ℕ) = 512 + (128 + (d : ℕ)); omega))
  · intro d
    rw [mix_at]
    simp only [score2_at]
    refine Finset.sum_congr rfl fun j _ => congrArg _ ?_
    pointwise [k0_pay10, k0_pay3, row]
    exact congrArg (fun z => mkv (ix3 0 j z)) (Fin.ext (by show 768 + (d : ℕ) = 512 + (256 + (d : ℕ)); omega))
  · intro d
    rw [mix_at]
    simp only [score3_at]
    refine Finset.sum_congr rfl fun j _ => congrArg _ ?_
    pointwise [k0_pay14, k0_pay3, row]
    exact congrArg (fun z => mkv (ix3 0 j z)) (Fin.ext (by show 896 + (d : ℕ) = 512 + (384 + (d : ℕ)); omega))

/-- The first branch of a row, gated. -/
theorem gdn_at (f : Fin 1024) : k0_pay17 (F := Ideal) og wg g0 (ix2 r f)
    = gated (row x og om g0 g1 g2 mq mkv r) 0 f * ygdn (row x og om g0 g1 g2 mq mkv r) (weights wg wm we wo wq gq gk gf) f := by
  unfold gated ygdn row weights
  pointwise [k0_pay17]
  rfl

/-- The second branch of a row, gated. -/
theorem mla_at (f : Fin 1024) : k0_pay18 (F := Ideal) om wm g1 (ix2 r f)
    = gated (row x og om g0 g1 g2 mq mkv r) 1 f * ymla (row x og om g0 g1 g2 mq mkv r) (weights wg wm we wo wq gq gk gf) f := by
  unfold gated ymla row weights
  pointwise [k0_pay18]
  rfl

/-- The residual and the projected sum of the branches. -/
theorem sum_at (a b c : FVec Ideal S256x1024 .f32) (j : Fin 1024) : k0_pay19 (F := Ideal) a b c g2 x wo (ix2 r j)
    = x (ix3 0 r j) + ∑ f : Fin 1024, (b (ix2 r f) + c (ix2 r f) + Ideal.logistic (g2 (ix3 0 r f)) * a (ix2 r f)) * wo (ix2 f j) := by
  pointwise [k0_pay19]

/-- The kernel's sum. -/
def blockSum : FVec Ideal S256x1024 .f32 :=
  k0_pay19 (F := Ideal) (blockMem mq mkv we gq gk) (k0_pay17 (F := Ideal) og wg g0) (k0_pay18 (F := Ideal) om wm g1) g2 x wo

/-- The sum of a row. -/
theorem x1_at (j : Fin 1024) : blockSum x og om g0 g1 g2 mq mkv wg wm we wo gq gk (ix2 r j)
    = x1 (row x og om g0 g1 g2 mq mkv r) (weights wg wm we wo wq gq gk gf) j := by
  unfold blockSum
  rw [sum_at]
  simp only [mem_at x og om g0 g1 g2 mq mkv wg wm we wo wq gq gk gf, gdn_at x og om g0 g1 g2 mq mkv wg wm we wo wq gq gk gf, mla_at x og om g0 g1 g2 mq mkv wg wm we wo wq gq gk gf]
  rfl

/-- The norm of a row, from the row's sum. -/
theorem norm_at (a b c : FVec Ideal S256x1024 .f32) (j : Fin 1024) : k0_pay21 (F := Ideal) a b c g2 x wo gf (ix2 r j)
    = normed (Ideal.ofBits .f32 0x3A800000#32) (fun k : Fin 1024 => k0_pay19 (F := Ideal) a b c g2 x wo (ix2 r k)) (fun k => gf (ix2 0 k)) j := by
  unfold normed eps
  pointwise [k0_pay21]

/-- The kernel's norm. -/
def blockNorm : FVec Ideal S256x1024 .f32 :=
  k0_pay21 (F := Ideal) (blockMem mq mkv we gq gk) (k0_pay17 (F := Ideal) og wg g0) (k0_pay18 (F := Ideal) om wm g1) g2 x wo gf

/-- The norm of a row. -/
theorem zn_at (j : Fin 1024) : blockNorm x og om g0 g1 g2 mq mkv wg wm we wo gq gk gf (ix2 r j)
    = zn (row x og om g0 g1 g2 mq mkv r) (weights wg wm we wo wq gq gk gf) j := by
  unfold blockNorm zn
  rw [norm_at]
  congr 1
  funext k
  exact x1_at x og om g0 g1 g2 mq mkv wg wm we wo wq gq gk gf r k

/-- The first stored payload at a row. -/
theorem store0_at (j : Fin 1024) :
    k0_pay20 (F := Ideal) (blockMem mq mkv we gq gk) (k0_pay17 (F := Ideal) og wg g0) (k0_pay18 (F := Ideal) om wm g1) g2 x wo (ix3 0 r j)
    = x1 (row x og om g0 g1 g2 mq mkv r) (weights wg wm we wo wq gq gk gf) j := by
  rw [← x1_at x og om g0 g1 g2 mq mkv wg wm we wo wq gq gk gf r j]
  unfold blockSum
  pointwise [k0_pay20]

/-- The second stored payload at a row. -/
theorem store1_at (j : Fin 1024) :
    k0_pay22 (F := Ideal) (blockMem mq mkv we gq gk) (k0_pay17 (F := Ideal) og wg g0) (k0_pay18 (F := Ideal) om wm g1) g2 x wo gf (ix3 0 r j)
    = zn (row x og om g0 g1 g2 mq mkv r) (weights wg wm we wo wq gq gk gf) j := by
  rw [← zn_at x og om g0 g1 g2 mq mkv wg wm we wo wq gq gk gf r j]
  unfold blockNorm
  pointwise [k0_pay22]

/-- The third stored payload at a row. -/
theorem store2_at (k : Fin 2048) :
    k0_pay1 (F := Ideal) (k0_pay23 (F := Ideal) (blockMem mq mkv we gq gk) (k0_pay17 (F := Ideal) og wg g0) (k0_pay18 (F := Ideal) om wm g1) g2 x wo gf wq) (ix3 0 r k)
    = qq (row x og om g0 g1 g2 mq mkv r) (weights wg wm we wo wq gq gk gf) k := by
  unfold qq
  simp only [← zn_at x og om g0 g1 g2 mq mkv wg wm we wo wq gq gk gf r]
  unfold blockNorm weights
  pointwise [k0_pay1, k0_pay23]

end Rows

end Cert.Kernel3Ideal.Gen

end
-- ==== Proof.MergeBlocks.lean ====
/- The blocks the merge kernel reads: at a grid point, row `r` of the blocks is a row of the arguments, and
   the weights are the arguments'. -/
module

public import proofs.«01_k».proof.Proof.MergeStep
public import proofs.«01_k».proof.Proof.MergeRef
public import proofs.«01_k».proof.Proof.Gen.Kernel3Ideal.Value
public import Idealize.ShloMosaic.Lib.Pipeline.ValueKit

@[expose] public section

set_option maxRecDepth 16384

noncomputable section

namespace Cert.Kernel3Ideal.Value

open Idealize.ShloMosaic Idealize.ShloMosaic.TcCoe Idealize.SL.Sem Cert.Merge Cert.Kernel3Ideal.Gen

/-- Where the windows' blocks lie at a grid point: the point's batch and block of rows. -/
theorem idx : ∀ t : Fin cfg0.N, win0_0.index t = ![t.val / 64, t.val % 64, 0] ∧ win0_1.index t = ![t.val / 64, t.val % 64, 0]
    ∧ win0_2.index t = ![t.val / 64, t.val % 64, 0] ∧ win0_3.index t = ![t.val / 64, t.val % 64, 4]
    ∧ win0_4.index t = ![t.val / 64, t.val % 64, 5] ∧ win0_5.index t = ![t.val / 64, t.val % 64, 6]
    ∧ win0_6.index t = ![t.val / 64, t.val % 64, 14] ∧ win0_7.index t = ![t.val / 64, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![t.val / 64, t.val % 64, 0] ∧ win0_17.index t = ![t.val / 64, t.val % 64, 0]
    ∧ win0_18.index t = ![t.val / 64, t.val % 64, 0] ∧ t.val < 128 :=
  (by decide +kernel : ∀ t : Fin grid0.N, _)

/-- The batch of a grid point. -/
def bt (t : ℕ) (ht : t < 128) : Fin 2 := ⟨t / 64, by omega⟩

/-- The row of the arguments a grid point's row `r` is. -/
def line (t : ℕ) (r : Fin 256) : Fin 16384 := ⟨t % 64 * 256 + r, by omega⟩

variable (m : (ℓ : Loc nD τ sig) → Buf (Elt Ideal) ℓ) (c : Dev nD)

/-- The row of the arguments. -/
def argRow (b : Fin 2) (i : Fin 16384) : Row :=
  Reference3Ideal.Value.row (m ((c : Thread nD τ).loc main_arg0)) (m ((c : Thread nD τ).loc main_arg1)) (m ((c : Thread nD τ).loc main_arg2))
    (m ((c : Thread nD τ).loc main_arg3)) (m ((c : Thread nD τ).loc main_arg4)) b i

/-- The weights of the arguments. -/
def argWeights : Weights :=
  Reference3Ideal.Value.weights (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- Row `r` of the blocks. -/
theorem blk_row (t : Fin cfg0.N) (ht : t.val < 128) (r : Fin 256) :
    row (iblk m c 0 t) (iblk m c 1 t) (iblk m c 2 t) (X0_3 m c t) (X0_4 m c t) (X0_5 m c t) (X0_6 m c t) (iblk m c 7 t) r
      = argRow m c (bt t.val ht) (line t.val r) := by
  unfold row argRow Reference3Ideal.Value.row
  congr 1
  · funext j
    unfold bt line
    blk_point [iblk, V, idx t]
  · funext j
    unfold bt line
    blk_point [iblk, V, idx t]
  · funext j
    unfold bt line
    blk_point [iblk, V, idx t]
  · funext k j
    unfold bt line
    match k with
    | 0 => show X0_3 m c t (ix3 0 r j) = _
           unfold X0_3 Pipeline.Window.fill
           rw [dif_pos (moved0_3 t _)]
           blk_point [iblk, V, idx t]
    | 1 => show X0_4 m c t (ix3 0 r j) = _
           unfold X0_4 Pipeline.Window.fill
           rw [dif_pos (moved0_4 t _)]
           blk_point [iblk, V, idx t]
    | 2 => show X0_5 m c t (ix3 0 r j) = _
           unfold X0_5 Pipeline.Window.fill
           rw [dif_pos (moved0_5 t _)]
           blk_point [iblk, V, idx t]
  · funext j
    unfold bt line
    show X0_6 m c t (ix3 0 r j) = _
    unfold X0_6 Pipeline.Window.fill
    rw [dif_pos (moved0_6 t _)]
    blk_point [iblk, V, idx t]
  · funext i j
    unfold bt
    blk_point [iblk, V, idx t]

/-- The weights of the blocks. -/
theorem blk_weights (t : Fin cfg0.N) :
    weights (iblk m c 8 t) (iblk m c 9 t) (iblk m c 10 t) (iblk m c 11 t) (iblk m c 12 t) (iblk m c 13 t) (iblk m c 14 t) (iblk m c 15 t)
      = argWeights m c := by
  unfold weights argWeights Reference3Ideal.Value.weights
  congr 1 <;> (funext i; try funext j) <;> blk_point [iblk, V, idx t]

end Cert.Kernel3Ideal.Value

end
-- ==== Proof.MergeEquation.lean ====
/- The merge's equation: the kernel's three arrays after the run are the reference's three results. -/
module

public import proofs.«01_k».proof.Proof.MergeBlocks
public import Idealize.ShloMosaic.Lib.Pipeline.ReadBack

@[expose] public section

set_option maxRecDepth 16384

noncomputable section

namespace Cert.Kernel3Ideal.Value

open Idealize.ShloMosaic Idealize.ShloMosaic.TcCoe Idealize.SL.Sem Cert.Merge Cert.Kernel3Ideal.Gen

variable (m : (ℓ : Loc nD τ sig) → Buf (Elt Ideal) ℓ) (c : Dev nD)

/-- An index of a block with the row and column given. -/
theorem block_idx (n : ℕ) (x : (⟨3, ![1, 256, n]⟩ : Shape).Idx) : x = ix3 0 (x 1) (x 2) := by
  conv_lhs => rw [eq_ix3 x]
  refine (ix3_inj ..).2 ⟨?_, rfl, rfl⟩
  exact Subsingleton.elim (α := Fin 1) _ _

/-- What a grid point writes out first: the rows with the merged branches added. -/
theorem out0 (t : Fin cfg0.N) (ht : t.val < 128) (r : Fin 256) (j : Fin 1024) :
    (outsAt0 m c t).1 (ix3 0 r j) = x1 (argRow m c (bt t.val ht) (line t.val r)) (argWeights m c) j := by
  unfold outsAt0
  frame_out
  rw [← blk_row m c t ht r, ← blk_weights m c t]
  exact store0_at _ _ _ _ _ _ _ _ _ _ _ _ _ _ _ _ r j

/-- What a grid point writes out second: the norm of those rows. -/
theorem out1 (t : Fin cfg0.N) (ht : t.val < 128) (r : Fin 256) (j : Fin 1024) :
    (outsAt0 m c t).2.1 (ix3 0 r j) = zn (argRow m c (bt t.val ht) (line t.val r)) (argWeights m c) j := by
  unfold outsAt0
  frame_out
  rw [← blk_row m c t ht r, ← blk_weights m c t]
  exact store1_at _ _ _ _ _ _ _ _ _ _ _ _ _ _ _ _ r j

/-- What a grid point writes out third: the retrieval queries. -/
theorem out2 (t : Fin cfg0.N) (ht : t.val < 128) (r : Fin 256) (j : Fin 2048) :
    (outsAt0 m c t).2.2 (ix3 0 r j) = qq (argRow m c (bt t.val ht) (line t.val r)) (argWeights m c) j := by
  unfold outsAt0
  frame_out
  rw [← blk_row m c t ht r, ← blk_weights m c t]
  exact store2_at _ _ _ _ _ _ _ _ _ _ _ _ _ _ _ _ r j

/-- The kernel's first array after the run. -/
theorem final0 (G : FVec Ideal S2x16384x1024 .f32)
    (hG : ∀ (b : Fin 2) (i : Fin 16384) (j : Fin 1024), G (ix3 b i j) = x1 (argRow m c b i) (argWeights m c) j) :
    (dats m 0 c).arrAt 16 cfg0.N = G := by
  refine (dats m 0 c).arrAt_eq_of_covers 16 _ (by decide +kernel) fun t _ y => ?_
  have ht : t.val < 128 := (idx t).2.2.2.2.2.2.2.2.2.2.2.2.2.2.2.2.2.2.2
  blk_simp
  rw [after0_16]
  obtain ⟨r, j, rfl⟩ : ∃ (r : Fin 256) (j : Fin 1024), y = (ix3 0 r j : S1x256x1024.Idx) := ⟨y 1, y 2, block_idx 1024 y⟩
  refine (out0 m c t ht r j).trans ?_
  rw [← hG]
  congr 1
  blk_ext [idx t, bt, line]

/-- The kernel's second array after the run. -/
theorem final1 (G : FVec Ideal S2x16384x1024 .f32)
    (hG : ∀ (b : Fin 2) (i : Fin 16384) (j : Fin 1024), G (ix3 b i j) = zn (argRow m c b i) (argWeights m c) j) :
    (dats m 0 c).arrAt 17 cfg0.N = G := by
  refine (dats m 0 c).arrAt_eq_of_covers 17 _ (by decide +kernel) fun t _ y => ?_
  have ht : t.val < 128 := (idx t).2.2.2.2.2.2.2.2.2.2.2.2.2.2.2.2.2.2.2
  blk_simp
  rw [after0_17]
  obtain ⟨r, j, rfl⟩ : ∃ (r : Fin 256) (j : Fin 1024), y = (ix3 0 r j : S1x256x1024.Idx) := ⟨y 1, y 2, block_idx 1024 y⟩
  refine (out1 m c t ht r j).trans ?_
  rw [← hG]
  congr 1
  blk_ext [idx t, bt, line]

/-- The kernel's third array after the run. -/
theorem final2 (G : FVec Ideal S2x16384x2048 .f32)
    (hG : ∀ (b : Fin 2) (i : Fin 16384) (j : Fin 2048), G (ix3 b i j) = qq (argRow m c b i) (argWeights m c) j) :
    (dats m 0 c).arrAt 18 cfg0.N = G := by
  refine (dats m 0 c).arrAt_eq_of_covers 18 _ (by decide +kernel) fun t _ y => ?_
  have ht : t.val < 128 := (idx t).2.2.2.2.2.2.2.2.2.2.2.2.2.2.2.2.2.2.2
  blk_simp
  rw [after0_18]
  obtain ⟨r, j, rfl⟩ : ∃ (r : Fin 256) (j : Fin 2048), y = (ix3 0 r j : S1x256x2048.Idx) := ⟨y 1, y 2, block_idx 2048 y⟩
  refine (out2 m c t ht r j).trans ?_
  rw [← hG]
  congr 1
  blk_ext [idx t, bt, line]

/-- The kernel's first array after the run is the reference's first result. -/
theorem final_eq0 : (dats m 0 c).arrAt 16 cfg0.N = Reference3Ideal.Value.REF0 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg10)) (m ((c.tc : Thread nD τ).loc main_arg11)) :=
  final0 m c _ fun b i j => Reference3Ideal.Value.ref0_at _ _ _ _ _ _ _ _ _ _ _ _ _ b i j

/-- The kernel's second array after the run is the reference's second result. -/
theorem final_eq1 : (dats m 0 c).arrAt 17 cfg0.N = Reference3Ideal.Value.REF1 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg10)) (m ((c.tc : Thread nD τ).loc main_arg11)) (m ((c.tc : Thread nD τ).loc main_arg12)) :=
  final1 m c _ fun b i j => Reference3Ideal.Value.ref1_at _ _ _ _ _ _ _ _ _ _ _ _ _ b i j

/-- The kernel's third array after the run is the reference's third result. -/
theorem final_eq2 : (dats m 0 c).arrAt 18 cfg0.N = Reference3Ideal.Value.REF2 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  final2 m c _ fun b i j => Reference3Ideal.Value.ref2_at _ _ _ _ _ _ _ _ _ _ _ _ _ b i j

end Cert.Kernel3Ideal.Value

end
-- ==== Proof.NormBody.lean ====
/-
The input projection's run, by hand. The grid is 32 row blocks times 5 column blocks. At the first column block of
a row block the body normalises the rows into the scratch, multiplies them with the narrow matrix and stores the narrow
block; at every column block it multiplies the scratch with that block of the wide matrix and stores the wide block. The
narrow block is written back after the fifth column block, four points after it was stored, so the proof carries it
through the points that leave it alone.
-/
module

public import proofs.«01_k».proof.Proof.Gen.Kernel2.Frame
public import proofs.«01_k».proof.Proof.Gen.Kernel2.Skeleton
public import Idealize.ShloMosaic.Lib.Pipeline.TableIdle
public import Idealize.ShloMosaic.Lib.VecWindow
public import Idealize.ShloMosaic.Lib.Claim

@[expose] public section

set_option maxRecDepth 16384

noncomputable section

namespace Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a row block's first point: whatever the outputs and the scratch held, it leaves the normalised rows in
the scratch and both blocks made from them. -/
theorem run_first (c : Dev nD) (i : grid0.Coords) (arg2 : Memref sig .tc .vmem S1024x1024 .f32) (h2 : arg2.IsWhole)
    (arg3 : Memref sig .tc .vmem S1x1024 .f32) (h3 : arg3.IsWhole) (arg4 : Memref sig .tc .vmem S1024x1664 .bf16) (h4 : arg4.IsWhole)
    (arg5 : Memref sig .tc .vmem S1024x128 .bf16) (h5 : arg5.IsWhole) (arg6 : Memref sig .tc .vmem S1024x1664 .bf16) (h6 : arg6.IsWhole)
    (arg7 : Memref sig .tc .vmem S1024x128 .f32) (h7 : arg7.IsWhole) (arg8 : Memref sig .tc .vmem S1024x1024 .bf16) (h8 : arg8.IsWhole)
    (hc : k0_cond1 i = 1#1) (x : Vec F S1024x1024 .f32) (g : Vec F S1x1024 .f32) (w : Vec F S1024x1664 .bf16) (ws : Vec F S1024x128 .bf16)
    (E : Set ℕ) (K : PUnit → sProp 𝕄) :
    iprop(owns (c : Thread nD τ) arg2 fullShare x ∗ owns (c : Thread nD τ) arg3 fullShare g
        ∗ owns (c : Thread nD τ) arg4 fullShare w ∗ owns (c : Thread nD τ) arg5 fullShare ws
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g
            ∗ owns (c : Thread nD τ) arg4 fullShare w ∗ owns (c : Thread nD τ) arg5 fullShare ws
            ∗ owns (c : Thread nD τ) arg6 fullShare (k0_pay3 (k0_pay1 x g) w)
            ∗ owns (c : Thread nD τ) arg7 fullShare (k0_pay2 (k0_pay1 x g) ws)
            ∗ owns (c : Thread nD τ) arg8 fullShare (k0_pay1 x g)) -∗ K ⟨⟩))
      ⊢ wp frame (wpE (defs₀ (F := F)) Variants.none c none) E
          (cc0_norm_proj i arg2 h2 arg3 h3 arg4 h4 arg5 h5 arg6 h6 arg7 h7 arg8 h8) K := by
  simp only [cc0_norm_proj_eq_skeleton]; unfold cc0_norm_proj_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    refine (View.read_writes_full _ _ _ _ _).trans ?_
    unfold run_first.sl.v27 run_first.sl.H8_1
    rw [View.readCov_full, View.readAt_full, View.readAt_full, View.readAt_full, e2, e3, e4]
  isplitl [H7]
  · iexists _; isplitr
    swap; · iexact H7
    ipureintro
    refine (View.read_writes_full _ _ _ _ _).trans ?_
    unfold run_first.sl.v27 run_first.sl.H8_1
    rw [View.readCov_full, View.readAt_full, View.readAt_full, View.readAt_full, e2, e3, e5]
  iexists _; isplitr
  swap; · iexact H8
  ipureintro
  refine (View.read_writes_full _ _ _ _ _).trans ?_
  rw [View.readAt_full, View.readAt_full, e2, e3]

/-- The body at a row block's other points: it reads the scratch and stores the wide block, and the narrow block is
left as it was. -/
theorem run_next (c : Dev nD) (i : grid0.Coords) (arg2 : Memref sig .tc .vmem S1024x1024 .f32) (h2 : arg2.IsWhole)
    (arg3 : Memref sig .tc .vmem S1x1024 .f32) (h3 : arg3.IsWhole) (arg4 : Memref sig .tc .vmem S1024x1664 .bf16) (h4 : arg4.IsWhole)
    (arg5 : Memref sig .tc .vmem S1024x128 .bf16) (h5 : arg5.IsWhole) (arg6 : Memref sig .tc .vmem S1024x1664 .bf16) (h6 : arg6.IsWhole)
    (arg7 : Memref sig .tc .vmem S1024x128 .f32) (h7 : arg7.IsWhole) (arg8 : Memref sig .tc .vmem S1024x1024 .bf16) (h8 : arg8.IsWhole)
    (hc : ¬k0_cond1 i = 1#1) (h : Vec F S1024x1024 .bf16) (w : Vec F S1024x1664 .bf16)
    (E : Set ℕ) (K : PUnit → sProp 𝕄) :
    iprop(owns (c : Thread nD τ) arg4 fullShare w ∗ (∃ d, owns (c : Thread nD τ) arg6 fullShare d)
        ∗ owns (c : Thread nD τ) arg8 fullShare h
        ∗ (iprop(owns (c : Thread nD τ) arg4 fullShare w ∗ owns (c : Thread nD τ) arg6 fullShare (k0_pay3 h w)
            ∗ owns (c : Thread nD τ) arg8 fullShare h) -∗ K ⟨⟩))
      ⊢ wp frame (wpE (defs₀ (F := F)) Variants.none c none) E
          (cc0_norm_proj i arg2 h2 arg3 h3 arg4 h4 arg5 h5 arg6 h6 arg7 h7 arg8 h8) K := by
  simp only [cc0_norm_proj_eq_skeleton]; unfold cc0_norm_proj_skel
  unfold owns
  iintro ⟨⟨%f4, %e4, H4⟩, ⟨%d6, %f6, -, H6⟩, ⟨%f8, %e8, H8⟩, Hk⟩
  obtain rfl := h4.eq_unread e4; obtain rfl := h8.eq_unread e8
  sl_exec (disch := first | sl_exact hc)
  sl_step
  iapply Hk
  isplitl [H4]
  · iexists _; isplitr; · ipureintro; exact h4.read_unread _
    iexact H4
  isplitl [H6]
  · iexists _; isplitr
    swap; · iexact H6
    ipureintro
    refine (View.read_writes_full _ _ _ _ _).trans ?_
    rw [View.readAt_full, View.readAt_full, e4, e8]
  iexists _; isplitr; · ipureintro; exact h8.read_unread _
  iexact H8

/-! ## What is held from point to point -/

/-- The first point of a point's row block. -/
def first (t : Fin cfg0.N) : Fin cfg0.N := ⟨t.val - t.val % 5, lt_of_le_of_lt (Nat.sub_le _ _) t.isLt⟩

/-- The normalised rows the scratch holds during a row block. -/
def rows (c : Dev nD) (t : Fin cfg0.N) : Vec F S1024x1024 .bf16 := k0_pay1 (iblk m c 0 (first t)) (iblk m c 1 (first t))

theorem first_of_zero (t : Fin cfg0.N) (h : t.val % 5 = 0) : first t = t :=
  Fin.ext (by show t.val - t.val % 5 = t.val; omega)

theorem first_pred (t : Fin cfg0.N) (h : ¬t.val % 5 = 0) (h' : t.val - 1 < cfg0.N) : first ⟨t.val - 1, h'⟩ = first t :=
  Fin.ext (by show t.val - 1 - (t.val - 1) % 5 = t.val - t.val % 5; omega)

/-- The condition the body tests holds at exactly the first point of each row block. -/
theorem cond_iff (t : Fin cfg0.N) : k0_cond1 (grid0.coords t) = 1#1 ↔ t.val % 5 = 0 := by
  revert t; decide +kernel

/-- The scratch, and the generator register, between points: anything before the first point, then the rows of the point
before. -/
def Held (c : Dev nD) : (n : ℕ) → n ≤ cfg0.N → sProp 𝕄
  | 0, _ => Pipeline.ΦA spec0 c
  | n + 1, hn => iprop(owns (c : Thread nD τ) (Memref.whole cc0_scratch0) fullShare (rows m c ⟨n, hn⟩) ∗ (∃ r, prngReg c r))

theorem any_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem held_pos (c : Dev nD) (n : ℕ) (h : n ≤ cfg0.N) (hz : n ≠ 0) :
    Held m c n h = iprop(owns (c : Thread nD τ) (Memref.whole cc0_scratch0) fullShare (rows m c ⟨n - 1, by omega⟩) ∗ (∃ r, prngReg c r)) := by
  cases n with
  | zero => exact absurd rfl hz
  | succ n => rfl

/-- What is held can always be given up as anything. -/
theorem held_any (c : Dev nD) (n : ℕ) (h : n ≤ cfg0.N) :
    Held m c n h ⊢ iprop((∃ d, owns (c : Thread nD τ) (Memref.whole cc0_scratch0) fullShare d) ∗ (∃ r, prngReg c r)) := by
  cases n with
  | zero => rw [← any_eq]; exact Idealize.SL.BI.Entails.refl _
  | succ n =>
    unfold Held
    iintro ⟨H, Hg⟩
    isplitl [H]
    · iexists _; iexact H
    iexact Hg

/-- What each point leaves in each window's buffer, what is held between points, and the arrays as the launch finds
them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => k0_pay2 (rows m c t) (iblk m c 3 (first t))
  Φ t := Held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (rows m c t) (iblk m c 2 t) := by
  dsimp only [dats]
theorem after_5 (c : Dev nD) (t : Fin cfg0.N) : (dats m 0 c).after 5 t = k0_pay2 (rows m c t) (iblk m c 3 (first t)) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The narrow block between its store and its write-back -/

theorem idle_iff (t : Fin cfg0.N) : cfg0.idle 5 (grid0.coords t) = true ↔ ¬t.val % 5 = 0 := by
  revert t; decide +kernel

theorem fresh_iff (t : Fin cfg0.N) : cfg0.fresh 5 t.val = true ↔ t.val % 5 = 0 := by
  revert t; decide +kernel

/-- The narrow block is the same at every point of a row block. -/
theorem after_5_pred (c : Dev nD) (t : Fin cfg0.N) (h : ¬t.val % 5 = 0) (h' : t.val - 1 < cfg0.N) :
    (dats m 0 c).after 5 t = (dats m 0 c).after 5 ⟨t.val - 1, h'⟩ := by
  rw [after_5, after_5]; unfold rows; rw [first_pred t h h']

/-- Away from a row block's first point the narrow buffer is found holding the narrow block. -/
theorem before_5 (c : Dev nD) (t : Fin cfg0.N) (h : ¬t.val % 5 = 0) (d) : (dats m 0 c).before 5 t d = (dats m 0 c).after 5 t := by
  have hfr : cfg0.fresh 5 t.val = false := by
    rw [← Bool.not_eq_true]; exact fun e => h ((fresh_iff t).mp e)
  rw [(dats m 0 c).before_out_traj 5 rfl (fun _ _ => rfl)
    (fun t ht hi _ => after_5_pred m c t ((idle_iff t).mp hi) _) t.val t rfl d, hfr, if_neg Bool.false_ne_true]
  exact (after_5_pred m c t h _).symm

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window the body never leaves alone is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The narrow window, away from a row block's first point, holds the narrow block whether it is written back or not. -/
theorem leaves_5 (c : Dev nD) (t : Fin cfg0.N) (h : ¬t.val % 5 = 0) :
    owns (c : Thread nD τ) (st0_5 t) fullShare ((dats m 0 c).after 5 t) ⊢ (dats m 0 c).leavesExact 5 t := by
  have hi := (idle_iff t).mpr h
  cases hf : (cfg0.win 5).flush t with
  | false =>
    rw [Dat.leavesExact_idle (dats m 0 c) 5 t hi hf]
    iintro H
    iexists (dats m 0 c).after 5 t
    rw [before_5 m c t h]
    iexact H
  | true =>
    unfold Dat.leavesExact
    rw [hi, hf]

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = iprop(owns (c : Thread nD τ) (Memref.whole cc0_scratch0) fullShare (rows m c t) ∗ (∃ r, prngReg c r)) from rfl,
    show (dats m 0 c).Φ t.castSucc = Held m c t.val (Nat.le_of_lt t.isLt) from rfl,
    leaves_live m c 0 t rfl, leaves_live m c 1 t rfl, leaves_live m c 2 t rfl, leaves_live m c 3 t rfl, leaves_live m c 4 t rfl,
    after_0, after_1, after_2, after_3, after_4]
  by_cases h : t.val % 5 = 0
  · have hi : cfg0.idle 5 (grid0.coords t) = false := by
      rw [← Bool.not_eq_true]; exact fun e => (idle_iff t).mp e h
    rw [leaves_live m c 5 t hi, after_5]
    unfold rows
    rw [first_of_zero t h]
    refine (sep_mono_left (held_any m c _ _)).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((cond_iff t).mpr h) (iblk m c 0 t) (iblk m c 1 t)
      (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h (by rw [e])
    have hr : rows m c ⟨t.val - 1, lt_of_le_of_lt (Nat.sub_le _ _) t.isLt⟩ = rows m c t := by
      unfold rows; rw [first_pred t h]
    rw [held_pos m c _ _ hz, hr]
    simp only [before_5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (fun e => h ((cond_iff t).mp e)) (rows m c t)
      (iblk m c 2 t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t h)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Held m c cfg0.N (Nat.le_refl _) from rfl, any_eq]
  exact held_any m c _ _

/-! ## The launch -/

set_option backward.isDefEq.respectTransparency.types false in
/-- Every run ends with each window's array at what its write-backs make it, the other arrays as they were, and every
semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel2.Gen

end
-- ==== Proof.NormIdeal.lean ====
/- The idealized projection's program is the printed one's at the idealized values, so its frame is too. -/
module

public import proofs.«01_k».proof.Defs
public import proofs.«01_k».proof.Proof.NormBody
public import proofs.«01_k».proof.Proof.Gen.Kernel2Ideal
public import proofs.«01_k».proof.Proof.Gen.Kernel2Ideal.Frame

@[expose] public section

set_option maxRecDepth 16384

noncomputable section

namespace Cert.Kernel2Ideal.Gen

open Idealize.ShloMosaic Idealize.SL.Sem

/-- The two programs' kernel functions are the same. -/
theorem row_eq : Cert.Kernel2Ideal.defs₀ (F := Ideal) = Cert.Kernel2.defs₀ (F := Ideal) := by
  refine congrArg Defs.onTc (funext fun l => funext fun a => ?_)
  match l, a with
  | 0, (t, s) => rfl

/-- The two programs' definitions are the same. -/
theorem defs_eq : Cert.Kernel2Ideal.defs (F := Ideal) = Cert.Kernel2.defs (F := Ideal) :=
  congrArg (fun d => Pipeline.defs (Cert.Kernel2.pcfgs (F := Ideal)) d) row_eq

/-- The idealized projection runs, leaves its arguments as they were and every counter at zero. -/
theorem frame : Cert.quiescent_Kernel2Ideal (hKernel2Ideal := Cert.Kernel2Ideal.Gen.facts) := by
  intro m g _
  rw [defs_eq]
  exact Cert.Kernel2.Gen.frame (F := Ideal) m g

end Cert.Kernel2Ideal.Gen

end
-- ==== Proof.NormValue.lean ====
/- The projection's equation: what the kernel's two arrays hold after the run, as a function of the arguments. -/
module

public import proofs.«01_k».proof.Proof.NormBody
public import proofs.«01_k».proof.Proof.NormRef
public import Idealize.ShloMosaic.Lib.Pipeline.ValueKit
public import Idealize.ShloMosaic.Lib.Pipeline.ReadBack

@[expose] public section

set_option maxRecDepth 16384

noncomputable section

namespace Cert.Kernel2.Gen

open Idealize.ShloMosaic Idealize.ShloMosaic.TcCoe Idealize.SL.Sem Cert.Merge Cert.Reference2Ideal.Value

/-- The normalised rows of a block. -/
theorem pay1_at (x : FVec Ideal S1024x1024 .f32) (g : FVec Ideal S1x1024 .f32) (r d : Fin 1024) :
    k0_pay1 (F := Ideal) x g (ix2 r d)
      = normed (Ideal.ofBits .f32 0x3A800000#32) (fun k : Fin 1024 => x (ix2 r k)) (fun k => g (ix2 0 k)) d := by
  unfold normed eps
  pointwise [k0_pay1]

/-- The narrow product of a block of rows. -/
theorem pay2_at (h : FVec Ideal S1024x1024 .bf16) (w : FVec Ideal S1024x128 .bf16) (r : Fin 1024) (n : Fin 128) :
    k0_pay2 (F := Ideal) h w (ix2 r n) = ∑ d : Fin 1024, h (ix2 r d) * w (ix2 d n) := by
  pointwise [k0_pay2]

/-- The wide product of a block of rows. -/
theorem pay3_at (h : FVec Ideal S1024x1024 .bf16) (w : FVec Ideal S1024x1664 .bf16) (r : Fin 1024) (n : Fin 1664) :
    k0_pay3 (F := Ideal) h w (ix2 r n) = ∑ d : Fin 1024, h (ix2 r d) * w (ix2 d n) := by
  pointwise [k0_pay3]

/-- Where the windows' blocks lie at a grid point: the point's block of rows and its block of columns. -/
theorem idx : ∀ t : Fin cfg0.N, win0_0.index t = ![t.val / 5, 0] ∧ win0_1.index t = ![0, 0] ∧ win0_2.index t = ![0, t.val % 5]
    ∧ win0_3.index t = ![0, 0] ∧ win0_4.index t = ![t.val / 5, t.val % 5] ∧ win0_5.index t = ![t.val / 5, 0] ∧ t.val < 160 :=
  (by decide +kernel : ∀ t : Fin grid0.N, _)

/-- The row of the arguments a grid point's row `r` is. -/
def line (t : ℕ) (ht : t < 160) (r : Fin 1024) : Fin 32768 := ⟨t / 5 * 1024 + r, by omega⟩

/-- The column of the arguments a grid point's column `n` is. -/
def column (t : ℕ) (n : Fin 1664) : Fin 8320 := ⟨t % 5 * 1664 + n, by omega⟩

/-- The first point of a row block reads the same rows. -/
theorem first_line (t : Fin cfg0.N) (ht : t.val < 160) (h : (first t).val < 160) (r : Fin 1024) :
    line (first t).val h r = line t.val ht r :=
  Fin.ext (by show (t.val - t.val % 5) / 5 * 1024 + r.val = t.val / 5 * 1024 + r.val; omega)

variable (m : (ℓ : Loc nD τ sig) → Buf (Elt Ideal) ℓ) (c : Dev nD)

/-- The norm's weights as the kernel reads them. -/
theorem V_v0 : V m c main_v0 = shapeCast S1x1024 (m ((c.tc : Thread nD τ).loc main_arg1)) shapeCasts_S1024_S1x1024 := by
  dsimp only [V, hostOps0]
  after_results
  rfl

/-- A block of rows. -/
theorem blk0 (t : Fin cfg0.N) (ht : t.val < 160) (r d : Fin 1024) :
    iblk m c 0 t (ix2 r d) = m ((c.tc : Thread nD τ).loc main_arg0) (ix2 (line t.val ht r) d) := by
  unfold line
  rw [← V_main_arg0 m c]
  blk_point [iblk, idx t]

/-- The norm's weights. -/
theorem blk1 (t : Fin cfg0.N) (d : Fin 1024) :
    iblk m c 1 t (ix2 0 d) = m ((c.tc : Thread nD τ).loc main_arg1) (ix1 d) := by
  refine Eq.trans (b := V m c main_v0 (ix2 0 d)) ?_ ?_
  · blk_point [iblk, idx t]
  · rw [V_v0]
    pointwise

/-- A block of columns. -/
theorem blk2 (t : Fin cfg0.N) (d : Fin 1024) (n : Fin 1664) :
    iblk m c 2 t (ix2 d n) = m ((c.tc : Thread nD τ).loc main_arg2) (ix2 d (column t.val n)) := by
  unfold column
  rw [← V_main_arg2 m c]
  blk_point [iblk, idx t]

/-- The narrow weights. -/
theorem blk3 (t : Fin cfg0.N) (d : Fin 1024) (n : Fin 128) :
    iblk m c 3 t (ix2 d n) = m ((c.tc : Thread nD τ).loc main_arg3) (ix2 d n) := by
  rw [← V_main_arg3 m c]
  blk_point [iblk, idx t]

/-- The normalised rows held at a grid point. -/
theorem rows_at (t : Fin cfg0.N) (ht : t.val < 160) (r d : Fin 1024) :
    rows m c t (ix2 r d) = normed (Ideal.ofBits .f32 0x3A800000#32)
      (fun k => m ((c.tc : Thread nD τ).loc main_arg0) (ix2 (line t.val ht r) k)) (fun k => m ((c.tc : Thread nD τ).loc main_arg1) (ix1 k)) d := by
  have h : (first t).val < 160 := (idx (first t)).2.2.2.2.2.2
  unfold rows
  rw [pay1_at]
  simp only [blk0 m c (first t) h, blk1, first_line t ht h]

/-- The kernel's wide array after the run is the reference's. -/
theorem final4 : (dats m 0 c).arrAt 4 cfg0.N = WIDE (m ((c.tc : Thread nD τ).loc main_arg0)) (m ((c.tc : Thread nD τ).loc main_arg1))
    (m ((c.tc : Thread nD τ).loc main_arg2)) := by
  refine (dats m 0 c).arrAt_eq_of_covers 4 _ (by decide +kernel) fun t _ y => ?_
  have ht : t.val < 160 := (idx t).2.2.2.2.2.2
  blk_simp
  rw [after_4]
  obtain ⟨r, n, rfl⟩ : ∃ (r : Fin 1024) (n : Fin 1664), y = (ix2 r n : S1024x1664.Idx) := ⟨y 0, y 1, eq_ix2 y⟩
  refine (pay3_at _ _ r n).trans ?_
  simp only [rows_at m c t ht, blk2]
  refine (wide_at _ _ _ (line t.val ht r) (column t.val n)).symm.trans ?_
  congr 1
  blk_ext [idx t, line, column]

/-- The kernel's narrow array after the run is the reference's. -/
theorem final5 : (dats m 0 c).arrAt 5 cfg0.N = NARROW (m ((c.tc : Thread nD τ).loc main_arg0)) (m ((c.tc : Thread nD τ).loc main_arg1))
    (m ((c.tc : Thread nD τ).loc main_arg3)) := by
  refine (dats m 0 c).arrAt_eq_of_covers 5 _ (by decide +kernel) fun t _ y => ?_
  have ht : t.val < 160 := (idx t).2.2.2.2.2.2
  blk_simp
  rw [after_5]
  obtain ⟨r, n, rfl⟩ : ∃ (r : Fin 1024) (n : Fin 128), y = (ix2 r n : S1024x128.Idx) := ⟨y 0, y 1, eq_ix2 y⟩
  refine (pay2_at _ _ r n).trans ?_
  simp only [rows_at m c t ht, blk3]
  refine (narrow_at _ _ _ (line t.val ht r) n).symm.trans ?_
  congr 1
  blk_ext [idx t, line]

/-- The run ends with those two arrays and the arguments as they were. -/
theorem run_value (ρ : Dev nD → PrngReg) : θ_run (defs (F := Ideal)) (onTc (τ := τ) (main (F := Ideal))) ⟨m, fun _ => 0, ρ⟩ fun r => ∀ c : Dev nD,
      r.2.mem ((c.tc : Thread nD τ).loc main_v1_0) = WIDE (m ((c.tc : Thread nD τ).loc main_arg0)) (m ((c.tc : Thread nD τ).loc main_arg1)) (m ((c.tc : Thread nD τ).loc main_arg2))
      ∧ r.2.mem ((c.tc : Thread nD τ).loc main_v1_1) = NARROW (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), h.2.1 c⟩)
    (θ_run_and (run_main m ρ) (frame m ρ))

end Cert.Kernel2.Gen

end
-- ==== Proof.PrepSpec.lean ====
/- What the latent projections compute, row by row: the queries' and keys' heads projected up from the
   latents, normalised and turned by their positions. -/
module

public import proofs.«01_k».proof.Proof.MergeSpec

@[expose] public section

noncomputable section

namespace Cert.Prep

open Idealize.ShloMosaic Cert.Merge

/-- One over the length of the queries' latent. -/
def inv384 : EReal := ((1 / 384 : ℝ) : EReal)

/-- One over the length of a head. -/
def inv96 : EReal := ((1 / 96 : ℝ) : EReal)

/-- One over the length of the latent of keys and values. -/
def inv256 : EReal := Ideal.ofBits .f32 0x3B800000#32

/-- The scale of the queries. -/
def headScale : EReal := Ideal.ofBits .f32 0x3DD105EC#32

/-- The normalised latent `x` times the column `w` of the weights. -/
def up {n : ℕ} (c : EReal) (x g w : Fin n → EReal) : EReal := ∑ d, normed c x g d * w d

/-- A head filled up by zeros. -/
def fill (x : Fin 96 → EReal) (l : Fin 128) : EReal := if h : l.val < 96 then x ⟨l, h⟩ else 0

/-- A head turned by its position: the first lanes as they are, then the two halves of the rotary lanes. -/
def rope (y : Fin 96 → EReal) (cs sn : Fin 16 → EReal) (l : Fin 96) : EReal :=
  if l.val < 64 then y l
  else if h : l.val < 80 then y l * cs ⟨l - 64, by omega⟩ - y ⟨l + 16, by omega⟩ * sn ⟨l - 64, by omega⟩
  else y l * cs ⟨l - 80, by omega⟩ + y ⟨l - 16, by omega⟩ * sn ⟨l - 80, by omega⟩

/-- The cosines along the lanes. -/
def cosLanes (cs : Fin 16 → EReal) (l : Fin 128) : EReal :=
  if l.val < 64 then 1 else if h : l.val < 80 then cs ⟨l - 64, by omega⟩ else if h : l.val < 96 then cs ⟨l - 80, by omega⟩ else 0

/-- The sines of the lanes read from sixteen lanes before. -/
def sinBefore (sn : Fin 16 → EReal) (l : Fin 128) : EReal :=
  if l.val < 80 then 0 else if h : l.val < 96 then sn ⟨l - 80, by omega⟩ else 0

/-- The sines of the lanes read from sixteen lanes after. -/
def sinAfter (sn : Fin 16 → EReal) (l : Fin 128) : EReal :=
  if l.val < 64 then 0 else if h : l.val < 80 then -sn ⟨l - 64, by omega⟩ else 0

/-- Lanes turned: each lane, the lane sixteen before it and the lane sixteen after it, around the end. -/
def turn (c a b y : Fin 128 → EReal) (l : Fin 128) : EReal :=
  y l * c l + y ⟨(l + 128 - 16) % 128, Nat.mod_lt _ (by decide)⟩ * a l + y ⟨(l + 128 - 112) % 128, Nat.mod_lt _ (by decide)⟩ * b l

/-- The lanes turned by the tables are the head turned by its position. -/
theorem turn_fill (cs sn : Fin 16 → EReal) (y : Fin 96 → EReal) (l : Fin 128) :
    turn (cosLanes cs) (sinBefore sn) (sinAfter sn) (fill y) l = fill (rope y cs sn) l := by
  obtain ⟨l, hl⟩ := l
  by_cases h1 : l < 64
  · have h2 : l < 80 := by omega
    have h3 : l < 96 := by omega
    simp [turn, cosLanes, sinBefore, sinAfter, fill, rope, h1, h2, h3]
  · by_cases h2 : l < 80
    · have h3 : l < 96 := by omega
      have h4 : (l + 16) % 128 = l + 16 := by omega
      have h5 : l + 16 < 96 := by omega
      simp [turn, cosLanes, sinBefore, sinAfter, fill, rope, h1, h2, h3, h4, h5, sub_eq_add_neg]
    · by_cases h3 : l < 96
      · have h4 : (l + 112) % 128 = l - 16 := by omega
        have h5 : l - 16 < 96 := by omega
        simp [turn, cosLanes, sinBefore, sinAfter, fill, rope, h1, h2, h3, h4, h5]
      · simp [turn, cosLanes, sinBefore, sinAfter, fill, h1, h2, h3]

/-- The sum over the filled lanes. -/
theorem sum_fill (x : Fin 96 → EReal) : ∑ k, fill x k * fill x k = ∑ k, x k * x k := by
  refine (Fin.sum_univ_add (a := 96) (b := 32) fun k => fill x k * fill x k).trans ?_
  simp [fill]

/-- The norm of filled lanes. -/
theorem normed_fill (c : EReal) (x g : Fin 96 → EReal) (l : Fin 128) : normed c (fill x) (fill g) l = fill (normed c x g) l := by
  unfold normed
  rw [sum_fill]
  by_cases h : l.val < 96 <;> simp [fill, h]

/-- A head as the kernel stores it. -/
def head (x g : Fin 96 → EReal) (cs sn : Fin 16 → EReal) : Fin 128 → EReal := fill (rope (normed inv96 x g) cs sn)

/-- The kernel's lanes are the head. -/
theorem turn_normed (cs sn : Fin 16 → EReal) (x g : Fin 96 → EReal) (l : Fin 128) :
    turn (cosLanes cs) (sinBefore sn) (sinAfter sn) (normed inv96 (fill x) (fill g)) l = head x g cs sn l := by
  rw [funext (normed_fill inv96 x g), turn_fill, head]

end Cert.Prep

end
-- ==== Proof.PrepRef.lean ====
/- The reference of the latent projections, index by index. -/
module

public import proofs.«01_k».proof.Proof.PrepSpec
public import proofs.«01_k».proof.Proof.Gen.Reference4Ideal.Run

@[expose] public section

set_option maxRecDepth 16384

noncomputable section

namespace Cert.Reference4Ideal.Value

open Idealize.ShloMosaic Idealize.ShloMosaic.TcCoe Idealize.SL.Sem Cert.Merge Cert.Prep Cert.Reference4Ideal Cert.Reference4Ideal.Gen

/-- The latent of the queries. -/
def LATQ (P : FVec Ideal S2x16384x8320 .bf16) : FVec Ideal S2x16384x384 .f32 :=
  extf .f32 (extractStridedSlice S2x16384x384 ![0, 0, 7680] P slices_S2x16384x8320_S2x16384x384_0_0_7680) bitsLt_bf16_f32

/-- The latent of the keys and values. -/
def LATK (P : FVec Ideal S2x16384x8320 .bf16) : FVec Ideal S2x16384x256 .f32 :=
  extf .f32 (extractStridedSlice S2x16384x256 ![0, 0, 8064] P slices_S2x16384x8320_S2x16384x256_0_0_8064) bitsLt_bf16_f32

/-- The queries' latent normalised. -/
def CQ (X : FVec Ideal S2x16384x384 .f32) (g : FVec Ideal S384 .f32) : FVec Ideal S2x16384x384 .f32 :=
  mulf (mulf X (broadcastInDim S2x16384x384 ![0, 1, 2] bcast_S2x16384x1_S2x16384x384_0_1_2 (Host.rsqrt (addf (Host.divf (broadcastInDim S2x16384x1 ![0, 1] bcast_S2x16384_S2x16384x1_0_1 (Host.reduceAdd (mulf X X) (constant S_ .f32 0x00000000#32) reducesTo_S2x16384x384_S2x16384_d2 h_S_)) (broadcastInDim S2x16384x1 ![] bcast_S_S2x16384x1 (constant S_ .f32 0x43C00000#32))) (broadcastInDim S2x16384x1 ![] bcast_S_S2x16384x1 (constant S_ .f32 0x358637BD#32)))))) (broadcastInDim S2x16384x384 ![0, 1, 2] bcast_S1x1x384_S2x16384x384_0_1_2 (broadcastInDim S1x1x384 ![2] bcast_S384_S1x1x384_2 g))

/-- The keys' latent normalised. -/
def CKV (X : FVec Ideal S2x16384x256 .f32) (g : FVec Ideal S256 .f32) : FVec Ideal S2x16384x256 .f32 :=
  mulf (mulf X (broadcastInDim S2x16384x256 ![0, 1, 2] bcast_S2x16384x1_S2x16384x256_0_1_2 (Host.rsqrt (addf (Host.divf (broadcastInDim S2x16384x1 ![0, 1] bcast_S2x16384_S2x16384x1_0_1 (Host.reduceAdd (mulf X X) (constant S_ .f32 0x00000000#32) reducesTo_S2x16384x256_S2x16384_d2 h_S_)) (broadcastInDim S2x16384x1 ![] bcast_S_S2x16384x1 (constant S_ .f32 0x43800000#32))) (broadcastInDim S2x16384x1 ![] bcast_S_S2x16384x1 (constant S_ .f32 0x358637BD#32)))))) (broadcastInDim S2x16384x256 ![0, 1, 2] bcast_S1x1x256_S2x16384x256_0_1_2 (broadcastInDim S1x1x256 ![2] bcast_S256_S1x1x256_2 g))

/-- The queries' heads. -/
def QHEADS (X : FVec Ideal S2x16384x384 .f32) (w : FVec Ideal S384x768 .f32) : FVec Ideal S2x16384x8x96 .f32 :=
  shapeCast _ (Host.dotGeneral dot_S2x16384x384_S384x768_S2x16384x768_2_0_01_1_n_n none X w) shapeCasts_S2x16384x768_S2x16384x8x96

/-- The heads of keys and values. -/
def KVHEADS (X : FVec Ideal S2x16384x256 .f32) (w : FVec Ideal S256x1024 .f32) : FVec Ideal S2x16384x8x128 .f32 :=
  shapeCast _ (Host.dotGeneral dot_S2x16384x256_S256x1024_S2x16384x1024_2_0_01_1_n_n none X w) shapeCasts_S2x16384x1024_S2x16384x8x128

/-- The keys' heads. -/
def KHEADS (X : FVec Ideal S2x16384x8x128 .f32) (p : FVec Ideal S2x16384x128 .f32) : FVec Ideal S2x16384x8x96 .f32 :=
  concatenate S2x16384x8x96 3 [⟨S2x16384x8x64, (extractStridedSlice S2x16384x8x64 ![0, 0, 0, 0] X slices_S2x16384x8x128_S2x16384x8x64_0_0_0_0)⟩, ⟨S2x16384x8x32, (broadcastInDim S2x16384x8x32 ![0, 1, 2, 3] bcast_S2x16384x1x32_S2x16384x8x32_0_1_2_3 (broadcastInDim S2x16384x1x32 ![0, 1, 3] bcast_S2x16384x32_S2x16384x1x32_0_1_3 (extractStridedSlice S2x16384x32 ![0, 0, 32] p slices_S2x16384x128_S2x16384x32_0_0_32)))⟩] concatenates_S2x16384x8x64_S2x16384x8x32_S2x16384x8x96_d3

/-- Heads normalised. -/
def NORMH (X : FVec Ideal S2x16384x8x96 .f32) (g : FVec Ideal S96 .f32) : FVec Ideal S2x16384x8x96 .f32 :=
  mulf (mulf X (broadcastInDim S2x16384x8x96 ![0, 1, 2, 3] bcast_S2x16384x8x1_S2x16384x8x96_0_1_2_3 (Host.rsqrt (addf (Host.divf (broadcastInDim S2x16384x8x1 ![0, 1, 2] bcast_S2x16384x8_S2x16384x8x1_0_1_2 (Host.reduceAdd (mulf X X) (constant S_ .f32 0x00000000#32) reducesTo_S2x16384x8x96_S2x16384x8_d3 h_S_)) (broadcastInDim S2x16384x8x1 ![] bcast_S_S2x16384x8x1 (constant S_ .f32 0x42C00000#32))) (broadcastInDim S2x16384x8x1 ![] bcast_S_S2x16384x8x1 (constant S_ .f32 0x358637BD#32)))))) (broadcastInDim S2x16384x8x96 ![0, 1, 2, 3] bcast_S1x1x1x96_S2x16384x8x96_0_1_2_3 (broadcastInDim S1x1x1x96 ![3] bcast_S96_S1x1x1x96_3 g))

/-- The angles of the positions. -/
def ANGLES : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- A table of the positions along the heads. -/
def ALONG (T : FVec Ideal S16384x16 .f32) : FVec Ideal S2x16384x8x16 .f32 :=
  broadcastInDim S2x16384x8x16 ![0, 1, 2, 3] bcast_S1x16384x1x16_S2x16384x8x16_0_1_2_3 (broadcastInDim S1x16384x1x16 ![1, 2, 3] bcast_S16384x1x16_S1x16384x1x16_1_2_3 (broadcastInDim S16384x1x16 ![0, 2] bcast_S16384x16_S16384x1x16_0_2 T))

/-- The rotary lanes. -/
def LANES (Y : FVec Ideal S2x16384x8x96 .f32) : FVec Ideal S2x16384x8x32 .f32 :=
  extractStridedSlice S2x16384x8x32 ![0, 0, 0, 64] Y slices_S2x16384x8x96_S2x16384x8x32_0_0_0_64

/-- The two halves of the rotary lanes turned. -/
def HALVES (Y : FVec Ideal S2x16384x8x96 .f32) (C S : FVec Ideal S16384x16 .f32) : FVec Ideal S2x16384x8x32 .f32 :=
  concatenate S2x16384x8x32 3 [⟨S2x16384x8x16, (subf (mulf (extractStridedSlice S2x16384x8x16 ![0, 0, 0, 0] (LANES Y) slices_S2x16384x8x32_S2x16384x8x16_0_0_0_0) (ALONG C)) (mulf (extractStridedSlice S2x16384x8x16 ![0, 0, 0, 16] (LANES Y) slices_S2x16384x8x32_S2x16384x8x16_0_0_0_16) (ALONG S)))⟩, ⟨S2x16384x8x16, (addf (mulf (extractStridedSlice S2x16384x8x16 ![0, 0, 0, 16] (LANES Y) slices_S2x16384x8x32_S2x16384x8x16_0_0_0_16) (ALONG C)) (mulf (extractStridedSlice S2x16384x8x16 ![0, 0, 0, 0] (LANES Y) slices_S2x16384x8x32_S2x16384x8x16_0_0_0_0) (ALONG S)))⟩] concatenates_S2x16384x8x16_S2x16384x8x16_S2x16384x8x32_d3

/-- The heads turned. -/
def ROPE (Y : FVec Ideal S2x16384x8x96 .f32) (C S : FVec Ideal S16384x16 .f32) : FVec Ideal S2x16384x8x96 .f32 :=
  concatenate S2x16384x8x96 3 [⟨S2x16384x8x64, (extractStridedSlice S2x16384x8x64 ![0, 0, 0, 0] Y slices_S2x16384x8x96_S2x16384x8x64_0_0_0_0)⟩, ⟨S2x16384x8x32, HALVES Y C S⟩] concatenates_S2x16384x8x64_S2x16384x8x32_S2x16384x8x96_d3

/-- Heads before positions, filled up by zeros. -/
def FILLED (Y : FVec Ideal S2x16384x8x96 .f32) : FVec Ideal S2x8x16384x128 .bf16 :=
  truncf .bf16 (pad S2x8x16384x128 ![0, 0, 0, 0] ![0, 0, 0, 32] ![0, 0, 0, 0] (transpose S2x8x16384x96 [0, 2, 1, 3] Y transposes_S2x16384x8x96_S2x8x16384x96_0_2_1_3) (sitofp .f32 (constantI S_ 32 0#32)) pads_S2x8x16384x96_S2x8x16384x128_000_000_000_0320 h_S_) bitsLt_bf16_f32

/-- Heads scaled. -/
def SCALED (Y : FVec Ideal S2x16384x8x96 .f32) : FVec Ideal S2x16384x8x96 .f32 :=
  mulf Y (broadcastInDim S2x16384x8x96 ![] bcast_S_S2x16384x8x96 (constant S_ .f32 0x3DD105EC#32))

variable (m : (ℓ : Loc nD τ sig) → Buf (Elt Ideal) ℓ) (c : Dev nD)

/-- The first result. -/
theorem queries_eq : res_main_v143 m c = FILLED (SCALED (ROPE (NORMH (QHEADS (CQ (LATQ (m ((c.tc : Thread nD τ).loc main_arg0))) (m ((c.tc : Thread nD τ).loc main_arg2)))
    (m ((c.tc : Thread nD τ).loc main_arg4))) (m ((c.tc : Thread nD τ).loc main_arg6))) (Host.cos ANGLES) (Host.sin ANGLES))) := rfl

/-- The second result. -/
theorem keys_eq : res_main_v146 m c = FILLED (ROPE (NORMH (KHEADS (KVHEADS (CKV (LATK (m ((c.tc : Thread nD τ).loc main_arg0))) (m ((c.tc : Thread nD τ).loc main_arg3)))
    (m ((c.tc : Thread nD τ).loc main_arg5))) (m ((c.tc : Thread nD τ).loc main_arg1))) (m ((c.tc : Thread nD τ).loc main_arg7))) (Host.cos ANGLES) (Host.sin ANGLES)) := rfl

/-- Dividing by 384 is multiplying by one over 384. -/
theorem over_384 (x : EReal) : Ideal.div x (Ideal.ofBits .f32 0x43C00000#32) = x * inv384 := by
  have e : Ideal.ofBits .f32 0x43C00000#32 = ((384 : ℝ) : EReal) := by simp [Ideal.ofBits, Ideal.ieee]; rw [← EReal.coe_mul]; norm_num
  rw [e, Ideal.div_coe (by norm_num), inv384]

/-- Dividing by 96 is multiplying by one over 96. -/
theorem over_96 (x : EReal) : Ideal.div x (Ideal.ofBits .f32 0x42C00000#32) = x * inv96 := by
  have e : Ideal.ofBits .f32 0x42C00000#32 = ((96 : ℝ) : EReal) := by simp [Ideal.ofBits, Ideal.ieee]; rw [← EReal.coe_mul]; norm_num
  rw [e, Ideal.div_coe (by norm_num), inv96]

/-- Dividing by 256 is multiplying by one over 256. -/
theorem over_256 (x : EReal) : Ideal.div x (Ideal.ofBits .f32 0x43800000#32) = x * inv256 := by
  have e : Ideal.ofBits .f32 0x43800000#32 = ((256 : ℝ) : EReal) := by simp [Ideal.ofBits, Ideal.ieee]; rw [← EReal.coe_mul]; norm_num
  have f : inv256 = ((1 / 256 : ℝ) : EReal) := by simp [inv256, Ideal.ofBits, Ideal.ieee]; rw [← EReal.coe_mul]; norm_num
  rw [e, f, Ideal.div_coe (by norm_num)]

/-- The queries' normalised latent at an index. -/
theorem cq_at (P : FVec Ideal S2x16384x8320 .bf16) (g : FVec Ideal S384 .f32) (b : Fin 2) (i : Fin 16384) (d : Fin 384) :
    CQ (LATQ P) g (ix3 b i d) = normed inv384 (fun d : Fin 384 => P (ix3 b i ⟨7680 + d, by omega⟩)) (fun d => g (ix1 d)) d := by
  unfold normed eps
  simp only [← over_384]
  pointwise [CQ, LATQ]

/-- The keys' normalised latent at an index. -/
theorem ckv_at (P : FVec Ideal S2x16384x8320 .bf16) (g : FVec Ideal S256 .f32) (b : Fin 2) (i : Fin 16384) (d : Fin 256) :
    CKV (LATK P) g (ix3 b i d) = normed inv256 (fun d : Fin 256 => P (ix3 b i ⟨8064 + d, by omega⟩)) (fun d => g (ix1 d)) d := by
  unfold normed eps
  simp only [← over_256]
  pointwise [CKV, LATK]

/-- A head of the queries at an index. -/
theorem qheads_at (X : FVec Ideal S2x16384x384 .f32) (w : FVec Ideal S384x768 .f32) (b : Fin 2) (i : Fin 16384) (h : Fin 8) (j : Fin 96) :
    QHEADS X w (ix4 b i h j) = ∑ d : Fin 384, X (ix3 b i d) * w (ix2 d ⟨h * 96 + j, by omega⟩) := by
  pointwise [QHEADS]

/-- A head of keys and values at an index. -/
theorem kvheads_at (X : FVec Ideal S2x16384x256 .f32) (w : FVec Ideal S256x1024 .f32) (b : Fin 2) (i : Fin 16384) (h : Fin 8) (j : Fin 128) :
    KVHEADS X w (ix4 b i h j) = ∑ d : Fin 256, X (ix3 b i d) * w (ix2 d ⟨h * 128 + j, by omega⟩) := by
  pointwise [KVHEADS]

/-- A head of the keys at an index. -/
theorem kheads_at (X : FVec Ideal S2x16384x8x128 .f32) (p : FVec Ideal S2x16384x128 .f32) (b : Fin 2) (i : Fin 16384) (h : Fin 8) (j : Fin 96) :
    KHEADS X p (ix4 b i h j) = if j.val < 64 then X (ix4 b i h ⟨j, by omega⟩) else p (ix3 b i ⟨j - 32, by omega⟩) := by
  pointwise [KHEADS]
  by_cases h1 : j.val < 64
  · simp [h1]
  · have e : 32 + (j.val - 64) = j - 32 := by omega
    simp [h1, e]

/-- A normalised head at an index. -/
theorem normh_at (X : FVec Ideal S2x16384x8x96 .f32) (g : FVec Ideal S96 .f32) (b : Fin 2) (i : Fin 16384) (h : Fin 8) (j : Fin 96) :
    NORMH X g (ix4 b i h j) = normed inv96 (fun j : Fin 96 => X (ix4 b i h j)) (fun j => g (ix1 j)) j := by
  unfold normed eps
  simp only [← over_96]
  pointwise [NORMH]

/-- A turned head at an index. -/
theorem rope_at (Y : FVec Ideal S2x16384x8x96 .f32) (C S : FVec Ideal S16384x16 .f32) (b : Fin 2) (i : Fin 16384) (h : Fin 8) (j : Fin 96) :
    ROPE Y C S (ix4 b i h j) = rope (fun j : Fin 96 => Y (ix4 b i h j)) (fun k => C (ix2 i k)) (fun k => S (ix2 i k)) j := by
  unfold rope
  pointwise [ROPE, HALVES, LANES, ALONG]
  by_cases h1 : j.val < 64
  · simp [h1]
  · by_cases h2 : j.val < 80
    · have h3 : j.val - 64 < 16 := by omega
      have e1 : 64 + (j.val - 64) = j := by omega
      have e2 : 64 + (16 + (j.val - 64)) = j + 16 := by omega
      simp [h1, h2, h3, e1, e2]
    · have h3 : ¬ j.val - 64 < 16 := by omega
      have e1 : 64 + (16 + (j.val - 64 - 16)) = j := by omega
      have e2 : 64 + (j.val - 64 - 16) = j - 16 := by omega
      have e3 : j.val - 64 - 16 = j - 80 := by omega
      simp only [e1, e2]
      simp [h1, h2, h3, e3]

/-- The filled heads at an index. -/
theorem filled_at (Y : FVec Ideal S2x16384x8x96 .f32) (b : Fin 2) (i : Fin 16384) (h : Fin 8) (l : Fin 128) :
    FILLED Y (ix4 b h i l) = fill (fun j => Y (ix4 b i h j)) l := by
  have e : (FloatOps.sitofp .f32 0#32 : Ideal .f32) = 0 := by simp [FloatOps.sitofp]
  unfold fill
  pointwise [FILLED]
  rw [e]

/-- A scaled head at an index. -/
theorem scaled_at (Y : FVec Ideal S2x16384x8x96 .f32) (b : Fin 2) (i : Fin 16384) (h : Fin 8) (l : Fin 96) :
    SCALED Y (ix4 b i h l) = Y (ix4 b i h l) * headScale := by
  unfold headScale
  pointwise [SCALED]

/-- The cosines of position `i`. -/
def cosines (i : Fin 16384) (k : Fin 16) : EReal := Host.cos (F := Ideal) ANGLES (ix2 i k)

/-- The sines of position `i`. -/
def sines (i : Fin 16384) (k : Fin 16) : EReal := Host.sin (F := Ideal) ANGLES (ix2 i k)

/-- Head `h` of the query at position `i`. -/
def query (P : FVec Ideal S2x16384x8320 .bf16) (g : FVec Ideal S384 .f32) (w : FVec Ideal S384x768 .f32) (b : Fin 2) (i : Fin 16384) (h : Fin 8) (j : Fin 96) : EReal :=
  up inv384 (fun d : Fin 384 => P (ix3 b i ⟨7680 + d, by omega⟩)) (fun d => g (ix1 d)) (fun d => w (ix2 d ⟨h * 96 + j, by omega⟩))

/-- Lane `j` of head `h` of keys and values at position `i`. -/
def lane (P : FVec Ideal S2x16384x8320 .bf16) (g : FVec Ideal S256 .f32) (w : FVec Ideal S256x1024 .f32) (b : Fin 2) (i : Fin 16384) (h : Fin 8) (j : Fin 128) : EReal :=
  up inv256 (fun d : Fin 256 => P (ix3 b i ⟨8064 + d, by omega⟩)) (fun d => g (ix1 d)) (fun d => w (ix2 d ⟨h * 128 + j, by omega⟩))

/-- Head `h` of the key at position `i`. -/
def key (P : FVec Ideal S2x16384x8320 .bf16) (p : FVec Ideal S2x16384x128 .f32) (g : FVec Ideal S256 .f32) (w : FVec Ideal S256x1024 .f32) (b : Fin 2) (i : Fin 16384)
    (h : Fin 8) (j : Fin 96) : EReal :=
  if j.val < 64 then lane P g w b i h ⟨j, by omega⟩ else p (ix3 b i ⟨j - 32, by omega⟩)

/-- The values. -/
def VALUES (X : FVec Ideal S2x16384x8x128 .f32) : FVec Ideal S2x16384x512 .bf16 :=
  truncf .bf16 (shapeCast _ (extractStridedSlice S2x16384x8x64 ![0, 0, 0, 64] X slices_S2x16384x8x128_S2x16384x8x64_0_0_0_64) shapeCasts_S2x16384x8x64_S2x16384x512) bitsLt_bf16_f32

/-- The third result. -/
def VALUES3 (P : FVec Ideal S2x16384x8320 .bf16) (g : FVec Ideal S256 .f32) (w : FVec Ideal S256x1024 .f32) : FVec Ideal S2x16384x512 .bf16 :=
  VALUES (KVHEADS (CKV (LATK P) g) w)

/-- The first result at an index. -/
theorem queries_at (b : Fin 2) (h : Fin 8) (i : Fin 16384) (l : Fin 128) :
    (res_main_v143 m c : FVec Ideal S2x8x16384x128 .bf16) (ix4 b h i l)
      = head (query (m ((c.tc : Thread nD τ).loc main_arg0)) (m ((c.tc : Thread nD τ).loc main_arg2)) (m ((c.tc : Thread nD τ).loc main_arg4)) b i h)
          (fun j => m ((c.tc : Thread nD τ).loc main_arg6) (ix1 j)) (cosines i) (sines i) l * headScale := by
  rw [queries_eq]
  refine (filled_at _ b i h l).trans ?_
  simp only [scaled_at, rope_at, normh_at, qheads_at, cq_at]
  unfold head fill
  split
  · rfl
  · simp

/-- The second result at an index. -/
theorem keys_at (b : Fin 2) (h : Fin 8) (i : Fin 16384) (l : Fin 128) :
    (res_main_v146 m c : FVec Ideal S2x8x16384x128 .bf16) (ix4 b h i l)
      = head (key (m ((c.tc : Thread nD τ).loc main_arg0)) (m ((c.tc : Thread nD τ).loc main_arg1)) (m ((c.tc : Thread nD τ).loc main_arg3)) (m ((c.tc : Thread nD τ).loc main_arg5)) b i h)
          (fun j => m ((c.tc : Thread nD τ).loc main_arg7) (ix1 j)) (cosines i) (sines i) l := by
  rw [keys_eq]
  refine (filled_at _ b i h l).trans ?_
  simp only [rope_at, normh_at, kheads_at, kvheads_at, ckv_at]
  rfl

/-- The third result at an index. -/
theorem values_at (P : FVec Ideal S2x16384x8320 .bf16) (g : FVec Ideal S256 .f32) (w : FVec Ideal S256x1024 .f32) (b : Fin 2) (i : Fin 16384) (n : Fin 512) :
    VALUES3 P g w (ix3 b i n) = lane P g w b i ⟨n / 64, by omega⟩ ⟨64 + n % 64, by omega⟩ := by
  refine Eq.trans (b := KVHEADS (CKV (LATK P) g) w (ix4 b i ⟨n / 64, by omega⟩ ⟨64 + n % 64, by omega⟩)) ?_ ?_
  · pointwise [VALUES3, VALUES]
  · simp only [kvheads_at, ckv_at]
    rfl

end Cert.Reference4Ideal.Value

end
-- ==== Proof.PrepStep.lean ====
/- One point of the latent projections' grid, head by head. -/
module

public import proofs.«01_k».proof.Proof.PrepSpec
public import proofs.«01_k».proof.Proof.Gen.Kernel4Ideal.Value
public import Idealize.ShloMosaic.Lib.Pipeline.ValueKit

@[expose] public section

set_option maxRecDepth 16384

noncomputable section

namespace Cert.Kernel4Ideal.Value

open Idealize.ShloMosaic Idealize.ShloMosaic.TcCoe Idealize.SL.Sem Cert.Merge Cert.Prep Cert.Kernel4Ideal Cert.Kernel4Ideal.Gen

/-- The rows of a head, normalised. -/
def NORMED (x : FVec Ideal S512x128 .f32) (g : FVec Ideal S1x128 .f32) : FVec Ideal S512x128 .f32 :=
  mulf (mulf x (broadcastTo S512x128 (rsqrt (addf (mulf (shapeCast S512x1 (multiReduction .add [1] S512 (mulf x x) 0x00000000#32 reduces_S512x128_S512 (.inl rfl) rfl) shapeCasts_S512_S512x1)
    (broadcast S512x1 (Named.named (F := Ideal) κ "inv_96" (φ := .f32) 0x3C2AAAAB#32))) (broadcast S512x1 (Scalar.ofBits .f32 0x358637BD#32)))) broadcasts_S512x1_S512x128))
    (broadcastTo S512x128 (shapeCast S1x128 g shapeCasts_S1x128_S1x128) broadcasts_S1x128_S512x128)

/-- Rows turned by their positions. -/
def TURNED (y c a b : FVec Ideal S512x128 .f32) : FVec Ideal S512x128 .f32 :=
  addf (addf (mulf y c) (mulf (dynamicRotate 1 16#32 none y rotates_S512x128_d1) a)) (mulf (dynamicRotate 1 112#32 none y rotates_S512x128_d1) b)

/-- The rows of a head of the queries as stored. -/
def QUERY (x c a b : FVec Ideal S512x128 .f32) (g : FVec Ideal S1x128 .f32) : FVec Ideal S1x1x512x128 .bf16 :=
  shapeCast S1x1x512x128 (truncf .bf16 (mulf (TURNED (NORMED x g) c a b) (broadcast S512x128 (Scalar.ofBits .f32 0x3DD105EC#32))) bitsLt_bf16_f32) shapeCasts_S512x128_S1x1x512x128

/-- The rows of a head of the keys as stored. -/
def KEY (x c a b : FVec Ideal S512x128 .f32) (g : FVec Ideal S1x128 .f32) : FVec Ideal S1x1x512x128 .bf16 :=
  shapeCast S1x1x512x128 (truncf .bf16 (TURNED (NORMED x g) c a b) bitsLt_bf16_f32) shapeCasts_S512x128_S1x1x512x128

/-- A head's lanes lie within the columns. -/
theorem slices (h : Fin 8) : S512x1024.Slices ![0, 128 * h.val] S512x128 := by
  revert h
  decide

/-- The lanes of head `h`. -/
def HEAD (h : Fin 8) (x : FVec Ideal S512x1024 .f32) : FVec Ideal S512x128 .f32 :=
  extractStridedSlice S512x128 ![0, 128 * h.val] x (slices h)

theorem inb (k : Fin 8) (a : Fin 4) : (![0, 7 - k.val, 0, 0] : Fin 4 → ℕ) a + S1x1x512x128.size a ≤ S1x8x512x128.size a := by
  revert k a
  decide

variable (x0 : Vec Ideal S1x512x640 .bf16) (x1 : Vec Ideal S1x512x128 .f32) (x2 x3 x4 : Vec Ideal S512x128 .f32) (x5 : Vec Ideal S1x384 .f32)
  (x6 : Vec Ideal S1x256 .f32) (x7 : Vec Ideal S384x1024 .bf16) (x8 : Vec Ideal S256x1024 .bf16) (x9 : Vec Ideal S256x512 .bf16)
  (x10 x11 : Vec Ideal S1x128 .f32)

/-- The queries' buffer is one piece for each head. -/
theorem out12_eq : out0_12 x0 x1 x2 x3 x4 x5 x6 x7 x8 x9 x10 x11
    = View.canon (List.ofFn fun k : Fin 8 => (⟨Rect.unit (s := S1x8x512x128) ![0, 7 - k.val, 0, 0] S1x1x512x128.size (inb k),
        QUERY (HEAD k.rev (k0_pay4 (View.ld (Val := Elt Ideal) x0 r0_0) (View.ld (Val := Elt Ideal) x5 r0_1) (View.ld (Val := Elt Ideal) x7 r0_3))) (k0_pay10 (View.ld (Val := Elt Ideal) x2 r0_8)) (k0_pay11 (View.ld (Val := Elt Ideal) x3 r0_8))
          (k0_pay12 (View.ld (Val := Elt Ideal) x4 r0_8)) (View.ld (Val := Elt Ideal) x10 r0_9)⟩ : View.Piece (Elt Ideal) S1x8x512x128 .bf16)) := rfl

/-- The keys' buffer is one piece for each head. -/
theorem out13_eq : out0_13 x0 x1 x2 x3 x4 x5 x6 x7 x8 x9 x10 x11
    = View.canon (List.ofFn fun k : Fin 8 => (⟨Rect.unit (s := S1x8x512x128) ![0, 7 - k.val, 0, 0] S1x1x512x128.size (inb k),
        KEY (addf (HEAD k.rev (k0_pay7 (k0_pay5 (View.ld (Val := Elt Ideal) x8 r0_4)) (k0_pay6 (View.ld (Val := Elt Ideal) x0 r0_0) (View.ld (Val := Elt Ideal) x6 r0_2)))) (k0_pay9 (View.ld (Val := Elt Ideal) x1 r0_7)))
          (k0_pay10 (View.ld (Val := Elt Ideal) x2 r0_8)) (k0_pay11 (View.ld (Val := Elt Ideal) x3 r0_8)) (k0_pay12 (View.ld (Val := Elt Ideal) x4 r0_8)) (View.ld (Val := Elt Ideal) x11 r0_9)⟩ : View.Piece (Elt Ideal) S1x8x512x128 .bf16)) := rfl

/-- The named numbers are what they are named after. -/
theorem named96 : Named.named (F := Ideal) κ "inv_96" (φ := .f32) 0x3C2AAAAB#32 = inv96 :=
  IdealRules.named_const.ideal_named_scalar _ _ _ _ rfl

theorem named384 : Named.named (F := Ideal) κ "inv_384" (φ := .f32) 0x3B2AAAAB#32 = inv384 :=
  IdealRules.named_const.ideal_named_scalar _ _ _ _ rfl

/-- A normalised head at an index. -/
theorem normed_at (x : FVec Ideal S512x128 .f32) (g : FVec Ideal S1x128 .f32) (r : Fin 512) (l : Fin 128) :
    NORMED x g (ix2 r l) = normed inv96 (fun k : Fin 128 => x (ix2 r k)) (fun k => g (ix2 0 k)) l := by
  rw [← named96]
  unfold normed eps
  pointwise [NORMED]

/-- The turned rows at an index. -/
theorem turned_at (y c a b : FVec Ideal S512x128 .f32) (r : Fin 512) (l : Fin 128) :
    TURNED y c a b (ix2 r l) = turn (fun k => c (ix2 r k)) (fun k => a (ix2 r k)) (fun k => b (ix2 r k)) (fun k => y (ix2 r k)) l := by
  unfold turn
  pointwise [TURNED]

/-- A row of a head of the queries. -/
theorem query_at (x c a b : FVec Ideal S512x128 .f32) (g : FVec Ideal S1x128 .f32) (r : Fin 512) (l : Fin 128) :
    QUERY x c a b g (ix4 0 0 r l) = turn (fun k => c (ix2 r k)) (fun k => a (ix2 r k)) (fun k => b (ix2 r k))
      (normed inv96 (fun k => x (ix2 r k)) (fun k => g (ix2 0 k))) l * headScale := by
  refine Eq.trans (b := TURNED (NORMED x g) c a b (ix2 r l) * headScale) ?_ ?_
  · unfold headScale
    pointwise [QUERY]
  · rw [turned_at]
    simp only [normed_at]

/-- A row of a head of the keys. -/
theorem key_at (x c a b : FVec Ideal S512x128 .f32) (g : FVec Ideal S1x128 .f32) (r : Fin 512) (l : Fin 128) :
    KEY x c a b g (ix4 0 0 r l) = turn (fun k => c (ix2 r k)) (fun k => a (ix2 r k)) (fun k => b (ix2 r k))
      (normed inv96 (fun k => x (ix2 r k)) (fun k => g (ix2 0 k))) l := by
  refine Eq.trans (b := TURNED (NORMED x g) c a b (ix2 r l)) ?_ ?_
  · pointwise [KEY]
  · rw [turned_at]
    simp only [normed_at]

/-- A lane of a head. -/
theorem head_at (h : Fin 8) (x : FVec Ideal S512x1024 .f32) (r : Fin 512) (l : Fin 128) :
    HEAD h x (ix2 r l) = x (ix2 r ⟨128 * h + l, by omega⟩) := by
  pointwise [HEAD]

/-- The rotary key moved to its lanes. -/
theorem pay9_at (y : Vec Ideal S1x512x128 .f32) (r : Fin 512) (l : Fin 128) :
    k0_pay9 (F := Ideal) y (ix2 r l) = if h : 64 ≤ l.val ∧ l.val < 96 then y (ix3 0 r ⟨l - 32, by omega⟩) else 0 := by
  have e : ∀ l : Fin 128, IntOp.andi (IntOp.cmpi CmpIPredicate.sge (BitVec.ofNat 32 l) 64#32) (IntOp.cmpi CmpIPredicate.slt (BitVec.ofNat 32 l) 96#32)
      = if 64 ≤ l.val ∧ l.val < 96 then 1#1 else 0#1 := by decide
  pointwise [k0_pay9]
  rw [e l]
  by_cases h : 64 ≤ l.val ∧ l.val < 96
  · have h' : (l.val + 96) % 128 = l - 32 := by omega
    simp [Scalar.select, h, h']
  · simp [Scalar.select, h]

/-- The queries' projection. -/
theorem pay4_at (r : Fin 512) (n : Fin 1024) : k0_pay4 (F := Ideal) x0 x5 x7 (ix2 r n)
    = up inv384 (fun d : Fin 384 => x0 (ix3 0 r ⟨d, by omega⟩)) (fun d => x5 (ix2 0 d)) (fun d => x7 (ix2 d n)) := by
  rw [← named384]
  unfold up normed eps
  pointwise [k0_pay4, k0_pay2]

/-- The keys' projection. -/
theorem pay7_at (r : Fin 512) (n : Fin 1024) : k0_pay7 (F := Ideal) (k0_pay5 x8) (k0_pay6 x0 x6) (ix2 r n)
    = up inv256 (fun d : Fin 256 => x0 (ix3 0 r ⟨384 + d, by omega⟩)) (fun d => x6 (ix2 0 d)) (fun d => x8 (ix2 d n)) := by
  unfold up normed eps inv256
  pointwise [k0_pay7, k0_pay5, k0_pay6, k0_pay3, k0_pay2]

/-- The values' projection. -/
theorem pay8_at (r n : Fin 512) : k0_pay8 (F := Ideal) (k0_pay3 x0 x6) x9 (ix3 0 r n)
    = up inv256 (fun d : Fin 256 => x0 (ix3 0 r ⟨384 + d, by omega⟩)) (fun d => x6 (ix2 0 d)) (fun d => x9 (ix2 d n)) := by
  unfold up normed eps inv256
  pointwise [k0_pay8, k0_pay3, k0_pay2]

/-- One piece for each head read at an index. -/
theorem stack_at (P : Fin 8 → S1x1x512x128.Idx → Elt Ideal .bf16) (h : Fin 8) (r : Fin 512) (l : Fin 128) :
    View.canon (List.ofFn fun k : Fin 8 => (⟨Rect.unit (s := S1x8x512x128) ![0, 7 - k.val, 0, 0] S1x1x512x128.size (inb k), P k⟩ : View.Piece (Elt Ideal) S1x8x512x128 .bf16))
      (ix4 0 h r l) = P h.rev (ix4 0 0 r l) := by
  refine View.canon_ofFn_unit_eq_of_forall (S := S1x8x512x128) (fun k : Fin 8 => ![0, 7 - k.val, 0, 0]) S1x1x512x128.size inb P _ _ ⟨h.rev, ?_⟩ fun k => ?_
  · intro a
    fin_cases a
    · exact ⟨Nat.zero_le _, Nat.one_pos⟩
    · show 7 - h.rev.val ≤ h.val ∧ h.val < 7 - h.rev.val + 1
      rw [Fin.val_rev]
      omega
    · exact ⟨Nat.zero_le _, show r.val < 0 + 512 by omega⟩
    · exact ⟨Nat.zero_le _, show l.val < 0 + 128 by omega⟩
  · intro x hx
    have h0 : (x 0).val < 1 := (x 0).isLt
    have h1 : (x 1).val < 1 := (x 1).isLt
    have e1 : h.val = 7 - k.val + (x 1).val := hx 1
    have e2 : r.val = 0 + (x 2).val := hx 2
    have e3 : l.val = 0 + (x 3).val := hx 3
    have hk : k = h.rev := by
      apply Fin.ext
      rw [Fin.val_rev]
      omega
    subst hk
    congr 1
    funext a
    fin_cases a
    · exact Fin.ext (show (x 0).val = 0 by omega)
    · exact Fin.ext (show (x 1).val = 0 by omega)
    · exact Fin.ext (show (x 2).val = r.val by omega)
    · exact Fin.ext (show (x 3).val = l.val by omega)

theorem zero2 : (![0, 0] : Fin 2 → ℕ) = fun _ => 0 := by decide

theorem zero3 : (![0, 0, 0] : Fin 3 → ℕ) = fun _ => 0 := by decide

theorem pay10_eq (x : Vec Ideal S512x128 .f32) : k0_pay10 (F := Ideal) x = x := shapeCast_self _ _

theorem pay11_eq (x : Vec Ideal S512x128 .f32) : k0_pay11 (F := Ideal) x = x := shapeCast_self _ _

theorem pay12_eq (x : Vec Ideal S512x128 .f32) : k0_pay12 (F := Ideal) x = x := shapeCast_self _ _

/-- The queries' buffer at an index. -/
theorem out12_at (h : Fin 8) (r : Fin 512) (l : Fin 128) : out0_12 x0 x1 x2 x3 x4 x5 x6 x7 x8 x9 x10 x11 (ix4 0 h r l)
    = QUERY (HEAD h (k0_pay4 (F := Ideal) x0 x5 x7)) x2 x3 x4 x10 (ix4 0 0 r l) := by
  rw [out12_eq]
  refine (stack_at _ h r l).trans ?_
  rw [Fin.rev_rev, pay10_eq, pay11_eq, pay12_eq, View.ld_unit_zero (S := S1x512x640) zero3, View.ld_unit_zero (S := S1x384) zero2,
    View.ld_unit_zero (S := S384x1024) zero2, View.ld_unit_zero (S := S512x128) zero2, View.ld_unit_zero (S := S512x128) zero2,
    View.ld_unit_zero (S := S512x128) zero2, View.ld_unit_zero (S := S1x128) zero2]

/-- The keys' buffer at an index. -/
theorem out13_at (h : Fin 8) (r : Fin 512) (l : Fin 128) : out0_13 x0 x1 x2 x3 x4 x5 x6 x7 x8 x9 x10 x11 (ix4 0 h r l)
    = KEY (addf (HEAD h (k0_pay7 (F := Ideal) (k0_pay5 x8) (k0_pay6 x0 x6))) (k0_pay9 x1)) x2 x3 x4 x11 (ix4 0 0 r l) := by
  rw [out13_eq]
  refine (stack_at _ h r l).trans ?_
  rw [Fin.rev_rev, pay10_eq, pay11_eq, pay12_eq, View.ld_unit_zero (S := S256x1024) zero2, View.ld_unit_zero (S := S1x512x640) zero3,
    View.ld_unit_zero (S := S1x256) zero2, View.ld_unit_zero (S := S1x512x128) zero3, View.ld_unit_zero (S := S512x128) zero2,
    View.ld_unit_zero (S := S512x128) zero2, View.ld_unit_zero (S := S512x128) zero2, View.ld_unit_zero (S := S1x128) zero2]

/-- The values' buffer. -/
theorem out14_eq : out0_14 x0 x1 x2 x3 x4 x5 x6 x7 x8 x9 x10 x11 = k0_pay8 (F := Ideal) (k0_pay3 x0 x6) x9 := by
  unfold out0_14
  rw [View.canon_unit_zero (S := S1x512x512) zero3, View.ld_unit_zero (S := S1x512x640) zero3, View.ld_unit_zero (S := S1x256) zero2,
    View.ld_unit_zero (S := S256x512) zero2]

end Cert.Kernel4Ideal.Value

end
-- ==== Proof.PrepBlocks.lean ====
/- The blocks of the latent projections' launch as rows of the arguments, and the tables made before it. -/
module

public import proofs.«01_k».proof.Proof.PrepRef
public import proofs.«01_k».proof.Proof.PrepStep

@[expose] public section

set_option maxRecDepth 16384

noncomputable section

namespace Cert.Kernel4Ideal.Value

open Idealize.ShloMosaic Idealize.ShloMosaic.TcCoe Idealize.SL.Sem Cert.Merge Cert.Prep Cert.Kernel4Ideal Cert.Kernel4Ideal.Gen

/-- The queries' weights, each head filled up by zeros. -/
def WQ (w : FVec Ideal S384x768 .f32) : FVec Ideal S384x1024 .bf16 :=
  truncf .bf16 (shapeCast S384x1024 (concatenate S384x8x128 2 [⟨S384x8x96, shapeCast S384x8x96 w shapeCasts_S384x768_S384x8x96⟩,
    ⟨S384x8x32, broadcastInDim S384x8x32 ![] bcast_S_S384x8x32 (constant (F := Ideal) S_ .f32 0x00000000#32)⟩] concatenates_S384x8x96_S384x8x32_S384x8x128_d2)
    shapeCasts_S384x8x128_S384x1024) bitsLt_bf16_f32

/-- The keys' weights, each head filled up by zeros. -/
def WK (w : FVec Ideal S256x1024 .f32) : FVec Ideal S256x1024 .bf16 :=
  truncf .bf16 (shapeCast S256x1024 (concatenate S256x8x128 2 [⟨S256x8x64, extractStridedSlice S256x8x64 ![0, 0, 0] (shapeCast S256x8x128 w shapeCasts_S256x1024_S256x8x128) slices_S256x8x128_S256x8x64_0_0_0⟩,
    ⟨S256x8x64, broadcastInDim S256x8x64 ![] bcast_S_S256x8x64 (constant (F := Ideal) S_ .f32 0x00000000#32)⟩] concatenates_S256x8x64_S256x8x64_S256x8x128_d2)
    shapeCasts_S256x8x128_S256x1024) bitsLt_bf16_f32

/-- The values' weights. -/
def WV (w : FVec Ideal S256x1024 .f32) : FVec Ideal S256x512 .bf16 :=
  truncf .bf16 (shapeCast S256x512 (extractStridedSlice S256x8x64 ![0, 0, 64] (shapeCast S256x8x128 w shapeCasts_S256x1024_S256x8x128) slices_S256x8x128_S256x8x64_0_0_64)
    shapeCasts_S256x8x64_S256x512) bitsLt_bf16_f32

/-- A head's weights of the norm, filled up by zeros. -/
def GAIN (g : FVec Ideal S96 .f32) : FVec Ideal S1x128 .f32 :=
  shapeCast S1x128 (concatenate S128 0 [⟨S96, g⟩, ⟨S32, broadcastInDim S32 ![] bcast_S_S32 (constant (F := Ideal) S_ .f32 0x00000000#32)⟩] concatenates_S96_S32_S128_d0)
    shapeCasts_S128_S1x128

/-- Four tables side by side. -/
def TABLE (a : FVec Ideal S16384x64 .f32) (b c : FVec Ideal S16384x16 .f32) (d : FVec Ideal S16384x32 .f32) : FVec Ideal S16384x128 .f32 :=
  concatenate S16384x128 1 [⟨S16384x64, a⟩, ⟨S16384x16, b⟩, ⟨S16384x16, c⟩, ⟨S16384x32, d⟩] concatenates_S16384x64_S16384x16_S16384x16_S16384x32_S16384x128_d1

/-- A table of one number. -/
def ALL64 (v : BitVec 32) : FVec Ideal S16384x64 .f32 := broadcastInDim S16384x64 ![] bcast_S_S16384x64 (constant (F := Ideal) S_ .f32 v)

/-- A table of one number. -/
def ALL32 (v : BitVec 32) : FVec Ideal S16384x32 .f32 := broadcastInDim S16384x32 ![] bcast_S_S16384x32 (constant (F := Ideal) S_ .f32 v)

/-- A table of one number. -/
def ALL16 (v : BitVec 32) : FVec Ideal S16384x16 .f32 := broadcastInDim S16384x16 ![] bcast_S_S16384x16 (constant (F := Ideal) S_ .f32 v)

/-- The cosines' table. -/
def COSINES : FVec Ideal S16384x128 .f32 :=
  TABLE (ALL64 0x3F800000#32) (Host.cos Reference4Ideal.Value.ANGLES) (Host.cos Reference4Ideal.Value.ANGLES) (ALL32 0x00000000#32)

/-- The table of the sines read from before. -/
def BEFORE : FVec Ideal S16384x128 .f32 :=
  TABLE (ALL64 0x00000000#32) (ALL16 0x00000000#32) (Host.sin Reference4Ideal.Value.ANGLES) (ALL32 0x00000000#32)

/-- The table of the sines read from after. -/
def AFTER : FVec Ideal S16384x128 .f32 :=
  TABLE (ALL64 0x00000000#32) (Host.negf (Host.sin Reference4Ideal.Value.ANGLES)) (ALL16 0x00000000#32) (ALL32 0x00000000#32)

variable (m : (ℓ : Loc nD τ sig) → Buf (Elt Ideal) ℓ) (c : Dev nD)

theorem V_v4 : V m c main_v4 = WQ (m ((c.tc : Thread nD τ).loc main_arg4)) := by
  dsimp only [V, hostOps0]
  after_results
  rfl

theorem V_v10 : V m c main_v10 = WK (m ((c.tc : Thread nD τ).loc main_arg5)) := by
  dsimp only [V, hostOps0]
  after_results
  rfl

theorem V_v13 : V m c main_v13 = WV (m ((c.tc : Thread nD τ).loc main_arg5)) := by
  dsimp only [V, hostOps0]
  after_results
  rfl

theorem V_v16 : V m c main_v16 = GAIN (m ((c.tc : Thread nD τ).loc main_arg6)) := by
  dsimp only [V, hostOps0]
  after_results
  rfl

theorem V_v18 : V m c main_v18 = GAIN (m ((c.tc : Thread nD τ).loc main_arg7)) := by
  dsimp only [V, hostOps0]
  after_results
  rfl

theorem V_v19 : V m c main_v19 = shapeCast S1x384 (m ((c.tc : Thread nD τ).loc main_arg2)) shapeCasts_S384_S1x384 := by
  dsimp only [V, hostOps0]
  after_results
  rfl

theorem V_v20 : V m c main_v20 = shapeCast S1x256 (m ((c.tc : Thread nD τ).loc main_arg3)) shapeCasts_S256_S1x256 := by
  dsimp only [V, hostOps0]
  after_results
  rfl

theorem V_v40 : V m c main_v40 = COSINES := by
  dsimp only [V, hostOps0]
  after_results
  rfl

theorem V_v41 : V m c main_v41 = BEFORE := by
  dsimp only [V, hostOps0]
  after_results
  rfl

theorem V_v43 : V m c main_v43 = AFTER := by
  dsimp only [V, hostOps0]
  after_results
  rfl

/-- A head's weights at an index. -/
theorem wq_at (w : FVec Ideal S384x768 .f32) (d : Fin 384) (h : Fin 8) (l : Fin 128) :
    WQ w (ix2 d ⟨128 * h + l, by omega⟩) = fill (fun j => w (ix2 d ⟨h * 96 + j, by omega⟩)) l := by
  unfold fill
  pointwise [WQ]

theorem wk_at (w : FVec Ideal S256x1024 .f32) (d : Fin 256) (h : Fin 8) (l : Fin 128) :
    WK w (ix2 d ⟨128 * h + l, by omega⟩) = if l.val < 64 then w (ix2 d ⟨h * 128 + l, by omega⟩) else 0 := by
  pointwise [WK]
  split_ifs <;> rfl

theorem wv_at (w : FVec Ideal S256x1024 .f32) (d : Fin 256) (n : Fin 512) :
    WV w (ix2 d n) = w (ix2 d ⟨n / 64 * 128 + (64 + n % 64), by omega⟩) := by
  pointwise [WV]

theorem gain_at (g : FVec Ideal S96 .f32) (l : Fin 128) : GAIN g (ix2 0 l) = fill (fun j => g (ix1 j)) l := by
  unfold fill
  pointwise [GAIN]

/-- Four tables side by side at an index. -/
theorem table_at (a : FVec Ideal S16384x64 .f32) (b c : FVec Ideal S16384x16 .f32) (d : FVec Ideal S16384x32 .f32) (i : Fin 16384) (l : Fin 128) :
    TABLE a b c d (ix2 i l) = if h : l.val < 64 then a (ix2 i ⟨l, h⟩) else if h : l.val < 80 then b (ix2 i ⟨l - 64, by omega⟩)
      else if h : l.val < 96 then c (ix2 i ⟨l - 80, by omega⟩) else d (ix2 i ⟨l - 96, by omega⟩) := by
  pointwise [TABLE]
  obtain ⟨l, hl⟩ := l
  by_cases h1 : l < 64
  · simp [h1]
  · by_cases h2 : l < 80
    · have e : l - 64 < 16 := by omega
      simp [h1, h2, e]
    · have e : ¬ l - 64 < 16 := by omega
      by_cases h3 : l < 96
      · have f : l - 80 < 16 := by omega
        simp [h1, h2, h3, e, f, Nat.sub_sub]
      · have f : ¬ l - 80 < 16 := by omega
        simp [h1, h2, h3, e, f, Nat.sub_sub]

/-- The cosines' table at an index. -/
theorem cosines_at (i : Fin 16384) (l : Fin 128) : COSINES (ix2 i l) = cosLanes (Reference4Ideal.Value.cosines i) l := by
  unfold cosLanes Reference4Ideal.Value.cosines COSINES
  rw [table_at]
  split_ifs <;> first | rfl | pointwise [ALL64, ALL32]

/-- The first table of sines at an index. -/
theorem before_at (i : Fin 16384) (l : Fin 128) : BEFORE (ix2 i l) = sinBefore (Reference4Ideal.Value.sines i) l := by
  unfold sinBefore Reference4Ideal.Value.sines BEFORE
  rw [table_at]
  split_ifs <;> first | rfl | omega | pointwise [ALL64, ALL32, ALL16]

/-- The second table of sines at an index. -/
theorem after_at (i : Fin 16384) (l : Fin 128) : AFTER (ix2 i l) = sinAfter (Reference4Ideal.Value.sines i) l := by
  unfold sinAfter Reference4Ideal.Value.sines AFTER
  rw [table_at]
  split_ifs <;> first | rfl | pointwise [ALL64, ALL32, ALL16]

end Cert.Kernel4Ideal.Value

end
-- ==== Proof.PrepEquation.lean ====
/- The latent projections' equation: the kernel's three arrays after the run are the reference's three results. -/
module

public import proofs.«01_k».proof.Proof.PrepBlocks
public import Idealize.ShloMosaic.Lib.Pipeline.ReadBack

@[expose] public section

set_option maxRecDepth 16384

noncomputable section

namespace Cert.Kernel4Ideal.Value

open Idealize.ShloMosaic Idealize.ShloMosaic.TcCoe Idealize.SL.Sem Cert.Merge Cert.Prep Cert.Kernel4Ideal Cert.Kernel4Ideal.Gen

/-- Where the windows' blocks lie at a grid point: the point's batch and block of positions. -/
theorem idx : ∀ t : Fin cfg0.N, win0_0.index t = ![t.val / 32, t.val % 32, 12] ∧ win0_1.index t = ![t.val / 32, t.val % 32, 0]
    ∧ win0_2.index t = ![t.val % 32, 0] ∧ win0_3.index t = ![t.val % 32, 0] ∧ win0_4.index t = ![t.val % 32, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 32, 0, t.val % 32, 0] ∧ win0_13.index t = ![t.val / 32, 0, t.val % 32, 0]
    ∧ win0_14.index t = ![t.val / 32, t.val % 32, 0] ∧ t.val < 64 :=
  (by decide +kernel : ∀ t : Fin grid0.N, _)

/-- The batch of a grid point. -/
def bt (t : ℕ) (ht : t < 64) : Fin 2 := ⟨t / 32, by omega⟩

/-- The position a grid point's row `r` is. -/
def line (t : ℕ) (r : Fin 512) : Fin 16384 := ⟨t % 32 * 512 + r, by omega⟩

variable (m : (ℓ : Loc nD τ sig) → Buf (Elt Ideal) ℓ) (c : Dev nD)

/-- The block of latents. -/
theorem blk0 (t : Fin cfg0.N) (ht : t.val < 64) (r : Fin 512) (d : Fin 640) :
    iblk m c 0 t (ix3 0 r d) = m ((c.tc : Thread nD τ).loc main_arg0) (ix3 (bt t ht) (line t r) ⟨7680 + d, by omega⟩) := by
  rw [← V_main_arg0 m c]
  unfold bt line
  blk_point [iblk, idx t]

/-- The latent of keys and values in that block. -/
theorem blk0' (t : Fin cfg0.N) (ht : t.val < 64) (r : Fin 512) (d : Fin 256) :
    iblk m c 0 t (ix3 0 r ⟨384 + d, by omega⟩) = m ((c.tc : Thread nD τ).loc main_arg0) (ix3 (bt t ht) (line t r) ⟨8064 + d, by omega⟩) := by
  have e : (⟨7680 + (384 + d.val), by omega⟩ : Fin 8320) = ⟨8064 + d, by omega⟩ := Fin.ext (by simp only []; omega)
  refine (blk0 m c t ht r _).trans ?_
  exact congrArg (fun k => m ((c.tc : Thread nD τ).loc main_arg0) (ix3 (bt t ht) (line t r) k)) e

/-- The block of rotary keys. -/
theorem blk1 (t : Fin cfg0.N) (ht : t.val < 64) (r : Fin 512) (d : Fin 128) :
    iblk m c 1 t (ix3 0 r d) = m ((c.tc : Thread nD τ).loc main_arg1) (ix3 (bt t ht) (line t r) d) := by
  rw [← V_main_arg1 m c]
  unfold bt line
  blk_point [iblk, idx t]

/-- The block of the cosines' table. -/
theorem blk2 (t : Fin cfg0.N) (r : Fin 512) (l : Fin 128) :
    iblk m c 2 t (ix2 r l) = cosLanes (Reference4Ideal.Value.cosines (line t r)) l := by
  rw [← cosines_at, ← V_v40 m c]
  unfold line
  blk_point [iblk, idx t]

/-- The block of the first table of sines. -/
theorem blk3 (t : Fin cfg0.N) (r : Fin 512) (l : Fin 128) :
    iblk m c 3 t (ix2 r l) = sinBefore (Reference4Ideal.Value.sines (line t r)) l := by
  rw [← before_at, ← V_v41 m c]
  unfold line
  blk_point [iblk, idx t]

/-- The block of the second table of sines. -/
theorem blk4 (t : Fin cfg0.N) (r : Fin 512) (l : Fin 128) :
    iblk m c 4 t (ix2 r l) = sinAfter (Reference4Ideal.Value.sines (line t r)) l := by
  rw [← after_at, ← V_v43 m c]
  unfold line
  blk_point [iblk, idx t]

/-- The weights of the queries' latent norm. -/
theorem blk5 (t : Fin cfg0.N) (d : Fin 384) : iblk m c 5 t (ix2 0 d) = m ((c.tc : Thread nD τ).loc main_arg2) (ix1 d) := by
  refine Eq.trans (b := V m c main_v19 (ix2 0 d)) ?_ ?_
  · blk_point [iblk, idx t]
  · rw [V_v19]
    pointwise

/-- The weights of the keys' latent norm. -/
theorem blk6 (t : Fin cfg0.N) (d : Fin 256) : iblk m c 6 t (ix2 0 d) = m ((c.tc : Thread nD τ).loc main_arg3) (ix1 d) := by
  refine Eq.trans (b := V m c main_v20 (ix2 0 d)) ?_ ?_
  · blk_point [iblk, idx t]
  · rw [V_v20]
    pointwise

/-- The queries' weights. -/
theorem blk7 (t : Fin cfg0.N) (d : Fin 384) (h : Fin 8) (l : Fin 128) : iblk m c 7 t (ix2 d ⟨128 * h + l, by omega⟩)
    = fill (fun j => m ((c.tc : Thread nD τ).loc main_arg4) (ix2 d ⟨h * 96 + j, by omega⟩)) l := by
  rw [← wq_at, ← V_v4 m c]
  blk_point [iblk, idx t]

/-- The keys' weights. -/
theorem blk8 (t : Fin cfg0.N) (d : Fin 256) (h : Fin 8) (l : Fin 128) : iblk m c 8 t (ix2 d ⟨128 * h + l, by omega⟩)
    = if l.val < 64 then (m ((c.tc : Thread nD τ).loc main_arg5) : FVec Ideal S256x1024 .f32) (ix2 d ⟨h * 128 + l, by omega⟩) else (0 : EReal) := by
  refine Eq.trans ?_ (wk_at _ d h l)
  rw [← V_v10 m c]
  blk_point [iblk, idx t]

/-- The values' weights. -/
theorem blk9 (t : Fin cfg0.N) (d : Fin 256) (n : Fin 512) : iblk m c 9 t (ix2 d n)
    = m ((c.tc : Thread nD τ).loc main_arg5) (ix2 d ⟨n / 64 * 128 + (64 + n % 64), by omega⟩) := by
  refine Eq.trans ?_ (wv_at _ d n)
  rw [← V_v13 m c]
  blk_point [iblk, idx t]

/-- The weights of the queries' norm. -/
theorem blk10 (t : Fin cfg0.N) (l : Fin 128) : iblk m c 10 t (ix2 0 l) = fill (fun j => m ((c.tc : Thread nD τ).loc main_arg6) (ix1 j)) l := by
  rw [← gain_at, ← V_v16 m c]
  blk_point [iblk, idx t]

/-- The weights of the keys' norm. -/
theorem blk11 (t : Fin cfg0.N) (l : Fin 128) : iblk m c 11 t (ix2 0 l) = fill (fun j => m ((c.tc : Thread nD τ).loc main_arg7) (ix1 j)) l := by
  rw [← gain_at, ← V_v18 m c]
  blk_point [iblk, idx t]

/-- Head `h` of the query at a position of the arguments. -/
def argQuery (b : Fin 2) (i : Fin 16384) (h : Fin 8) : Fin 96 → EReal :=
  Reference4Ideal.Value.query (m ((c.tc : Thread nD τ).loc main_arg0)) (m ((c.tc : Thread nD τ).loc main_arg2)) (m ((c.tc : Thread nD τ).loc main_arg4)) b i h

/-- Head `h` of keys and values at a position of the arguments. -/
def argLane (b : Fin 2) (i : Fin 16384) (h : Fin 8) : Fin 128 → EReal :=
  Reference4Ideal.Value.lane (m ((c.tc : Thread nD τ).loc main_arg0)) (m ((c.tc : Thread nD τ).loc main_arg3)) (m ((c.tc : Thread nD τ).loc main_arg5)) b i h

/-- Head `h` of the key at a position of the arguments. -/
def argKey (b : Fin 2) (i : Fin 16384) (h : Fin 8) : Fin 96 → EReal :=
  Reference4Ideal.Value.key (m ((c.tc : Thread nD τ).loc main_arg0)) (m ((c.tc : Thread nD τ).loc main_arg1)) (m ((c.tc : Thread nD τ).loc main_arg3))
    (m ((c.tc : Thread nD τ).loc main_arg5)) b i h

/-- A column of zeros projects to zero. -/
theorem up_zero {n : ℕ} (k : EReal) (x g : Fin n → EReal) : up k x g (fun _ => 0) = 0 := by
  simp [up]

/-- Row `r` of a head of the queries before the norm. -/
theorem head_query (t : Fin cfg0.N) (ht : t.val < 64) (h : Fin 8) (r : Fin 512) (l : Fin 128) :
    HEAD h (k0_pay4 (F := Ideal) (iblk m c 0 t) (iblk m c 5 t) (iblk m c 7 t)) (ix2 r l) = fill (argQuery m c (bt t ht) (line t r) h) l := by
  rw [head_at]
  refine (pay4_at _ _ _ r _).trans ?_
  simp only [blk0 m c t ht, blk5, blk7]
  unfold argQuery Reference4Ideal.Value.query fill
  split
  · rfl
  · exact up_zero _ _ _

/-- A sum at an index. -/
theorem add_at (x y : FVec Ideal S512x128 .f32) (r : Fin 512) (l : Fin 128) : addf x y (ix2 r l) = x (ix2 r l) + y (ix2 r l) := rfl

/-- Row `r` of a head of the keys before the norm. -/
theorem head_key (t : Fin cfg0.N) (ht : t.val < 64) (h : Fin 8) (r : Fin 512) (l : Fin 128) :
    addf (HEAD h (k0_pay7 (F := Ideal) (k0_pay5 (iblk m c 8 t)) (k0_pay6 (iblk m c 0 t) (iblk m c 6 t)))) (k0_pay9 (iblk m c 1 t)) (ix2 r l)
      = fill (argKey m c (bt t ht) (line t r) h) l := by
  refine (add_at _ _ r l).trans ?_
  rw [head_at, pay7_at, pay9_at]
  simp only [blk0' m c t ht, blk1 m c t ht, blk6, blk8]
  unfold argKey Reference4Ideal.Value.key fill
  by_cases h1 : l.val < 64
  · have h2 : l.val < 96 := by omega
    have h3 : ¬ 64 ≤ l.val := by omega
    simp only [h1, h2, h3, if_true, dif_pos, false_and, dif_neg, not_false_eq_true, add_zero]
    rfl
  · have h3 : 64 ≤ l.val := by omega
    simp only [h1, if_false, up_zero, zero_add]
    by_cases h2 : l.val < 96 <;> simp [h2, h3]

/-- What a grid point writes out first: the queries' heads. -/
theorem out12 (t : Fin cfg0.N) (ht : t.val < 64) (h : Fin 8) (r : Fin 512) (l : Fin 128) :
    out0_12 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix4 0 h r l)
      = head (argQuery m c (bt t ht) (line t r) h) (fun j => m ((c.tc : Thread nD τ).loc main_arg6) (ix1 j)) (Reference4Ideal.Value.cosines (line t r))
          (Reference4Ideal.Value.sines (line t r)) l * headScale := by
  refine (out12_at _ _ _ _ _ _ _ _ _ _ _ _ h r l).trans ((query_at _ _ _ _ _ r l).trans ?_)
  simp only [head_query m c t ht, blk2, blk3, blk4, blk10]
  exact congrArg (· * headScale) (turn_normed _ _ _ _ l)

/-- What a grid point writes out second: the keys' heads. -/
theorem out13 (t : Fin cfg0.N) (ht : t.val < 64) (h : Fin 8) (r : Fin 512) (l : Fin 128) :
    out0_13 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix4 0 h r l)
      = head (argKey m c (bt t ht) (line t r) h) (fun j => m ((c.tc : Thread nD τ).loc main_arg7) (ix1 j)) (Reference4Ideal.Value.cosines (line t r))
          (Reference4Ideal.Value.sines (line t r)) l := by
  refine (out13_at _ _ _ _ _ _ _ _ _ _ _ _ h r l).trans ((key_at _ _ _ _ _ r l).trans ?_)
  simp only [head_key m c t ht, blk2, blk3, blk4, blk11]
  exact turn_normed _ _ _ _ l

/-- What a grid point writes out third: the values. -/
theorem out14 (t : Fin cfg0.N) (ht : t.val < 64) (r n : Fin 512) :
    out0_14 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 0 r n)
      = argLane m c (bt t ht) (line t r) ⟨n / 64, by omega⟩ ⟨64 + n % 64, by omega⟩ := by
  rw [out14_eq]
  refine (pay8_at _ _ _ r n).trans ?_
  simp only [blk0' m c t ht, blk6, blk9]
  rfl

/-- An index of a block of heads with the head, the row and the lane given. -/
theorem head_idx (x : S1x8x512x128.Idx) : x = ix4 0 (x 1) (x 2) (x 3) := by
  conv_lhs => rw [eq_ix4 x]
  refine (ix4_inj ..).2 ⟨?_, rfl, rfl, rfl⟩
  exact Subsingleton.elim (α := Fin 1) _ _

/-- An index of a block of values with the row and the column given. -/
theorem value_idx (x : S1x512x512.Idx) : x = ix3 0 (x 1) (x 2) := by
  conv_lhs => rw [eq_ix3 x]
  refine (ix3_inj ..).2 ⟨?_, rfl, rfl⟩
  exact Subsingleton.elim (α := Fin 1) _ _

/-- The kernel's first array after the run. -/
theorem final12 (G : FVec Ideal S2x8x16384x128 .bf16)
    (hG : ∀ (b : Fin 2) (h : Fin 8) (i : Fin 16384) (l : Fin 128), G (ix4 b h i l) = head (argQuery m c b i h)
      (fun j => m ((c.tc : Thread nD τ).loc main_arg6) (ix1 j)) (Reference4Ideal.Value.cosines i) (Reference4Ideal.Value.sines i) l * headScale) :
    (dats m 0 c).arrAt 12 cfg0.N = G := by
  refine (dats m 0 c).arrAt_eq_of_covers 12 _ (by decide +kernel) fun t _ y => ?_
  have ht : t.val < 64 := (idx t).2.2.2.2.2.2.2.2.2.2.2.2.2.2.2
  blk_simp
  rw [after0_12]
  obtain ⟨h, r, l, rfl⟩ : ∃ (h : Fin 8) (r : Fin 512) (l : Fin 128), y = (ix4 0 h r l : S1x8x512x128.Idx) := ⟨y 1, y 2, y 3, head_idx y⟩
  refine (out12 m c t ht h r l).trans ?_
  rw [← hG]
  congr 1
  blk_ext [idx t, bt, line]

/-- The kernel's second array after the run. -/
theorem final13 (G : FVec Ideal S2x8x16384x128 .bf16)
    (hG : ∀ (b : Fin 2) (h : Fin 8) (i : Fin 16384) (l : Fin 128), G (ix4 b h i l) = head (argKey m c b i h)
      (fun j => m ((c.tc : Thread nD τ).loc main_arg7) (ix1 j)) (Reference4Ideal.Value.cosines i) (Reference4Ideal.Value.sines i) l) :
    (dats m 0 c).arrAt 13 cfg0.N = G := by
  refine (dats m 0 c).arrAt_eq_of_covers 13 _ (by decide +kernel) fun t _ y => ?_
  have ht : t.val < 64 := (idx t).2.2.2.2.2.2.2.2.2.2.2.2.2.2.2
  blk_simp
  rw [after0_13]
  obtain ⟨h, r, l, rfl⟩ : ∃ (h : Fin 8) (r : Fin 512) (l : Fin 128), y = (ix4 0 h r l : S1x8x512x128.Idx) := ⟨y 1, y 2, y 3, head_idx y⟩
  refine (out13 m c t ht h r l).trans ?_
  rw [← hG]
  congr 1
  blk_ext [idx t, bt, line]

/-- The kernel's third array after the run. -/
theorem final14 (G : FVec Ideal S2x16384x512 .bf16)
    (hG : ∀ (b : Fin 2) (i : Fin 16384) (n : Fin 512), G (ix3 b i n) = argLane m c b i ⟨n / 64, by omega⟩ ⟨64 + n % 64, by omega⟩) :
    (dats m 0 c).arrAt 14 cfg0.N = G := by
  refine (dats m 0 c).arrAt_eq_of_covers 14 _ (by decide +kernel) fun t _ y => ?_
  have ht : t.val < 64 := (idx t).2.2.2.2.2.2.2.2.2.2.2.2.2.2.2
  blk_simp
  rw [after0_14]
  obtain ⟨r, n, rfl⟩ : ∃ r n : Fin 512, y = (ix3 0 r n : S1x512x512.Idx) := ⟨y 1, y 2, value_idx y⟩
  refine (out14 m c t ht r n).trans ?_
  rw [← hG]
  congr 1
  blk_ext [idx t, bt, line]

end Cert.Kernel4Ideal.Value

end
-- ==== Proof.lean ====
/- The proof of the claims about the attention kernel, the two projections, the merge and the latent projections:
   their programs run, leave their arguments as they were and every counter at zero; and each idealized kernel
   ends with its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.ConvEquation
public import proofs.«01_k».proof.Proof.Equation
public import proofs.«01_k».proof.Proof.MemoryValue
public import proofs.«01_k».proof.Proof.MergeEquation
public import proofs.«01_k».proof.Proof.NormIdeal
public import proofs.«01_k».proof.Proof.NormValue
public import proofs.«01_k».proof.Proof.PrepEquation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The side conditions of the precondition's operations. -/
theorem pre_facts : Cert.Pre_finite_queries_and_keys.Facts := ⟨by decide, by decide⟩

/-- The reference runs, leaves its arguments as they were and, declaring no counter, every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0 :=
  (θ_run Cert.ReferenceIdeal.defs _ _).mono (fun r h => ⟨fun c => (h c).2, sem_eq_zero_of_no_sems (by decide) r.2⟩)
    (Cert.ReferenceIdeal.Value.run m g)

/-- With finite queries and keys the idealized kernel and the reference end with the same result. -/
theorem value : Cert.algebraic_KernelIdeal_ReferenceIdeal_pre_finite_queries_and_keys (hKernelIdeal := Cert.KernelIdeal.Gen.facts)
    (hReferenceIdeal := Cert.ReferenceIdeal.Gen.facts) (hPre_finite_queries_and_keys := pre_facts) := by
  intro m g m' g' hpre hagree
  refine ⟨fun c => (Cert.KernelIdeal.Gen.dats m 0 c).arrAt 3 Cert.KernelIdeal.cfg0.N, Cert.KernelIdeal.Value.run_blocks m g,
    (θ_run Cert.ReferenceIdeal.defs _ _).mono (fun r h c => ?_) (Cert.ReferenceIdeal.Value.run_ref m' g')⟩
  refine ⟨(h c).1.trans ?_, (h c).2⟩
  rw [(hagree c).1, (hagree c).2.1, (hagree c).2.2]
  exact (@Cert.Equation.final_eq pre_facts m c (hpre c)).symm

/-- The projection's reference runs, leaves its arguments as they were and, declaring no counter, every counter at zero. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
        ∧ r.2.sem = fun _ => 0 :=
  (θ_run Cert.Reference2Ideal.defs _ _).mono (fun r h => ⟨fun c => (h c).2.2, sem_eq_zero_of_no_sems (by decide) r.2⟩)
    (Cert.Reference2Ideal.Value.run m g)

set_option maxHeartbeats 2000000 in
/-- The idealized projection and its reference end with the same two results. -/
theorem value2 : Cert.algebraic_Kernel2Ideal_Reference2Ideal (hKernel2Ideal := Cert.Kernel2Ideal.Gen.facts)
    (hReference2Ideal := Cert.Reference2Ideal.Gen.facts) := by
  intro m g m' g' _ hagree
  rw [Cert.Kernel2Ideal.Gen.defs_eq]
  refine ⟨_, _, Cert.Kernel2.Gen.run_value m g,
    (θ_run Cert.Reference2Ideal.defs _ _).mono (fun r h c => ?_) (Cert.Reference2Ideal.Value.run m' g')⟩
  obtain ⟨h0, h1, h2, h3⟩ := hagree c
  refine ⟨(h c).1.trans ?_, (h c).2.1.trans ?_, (h c).2.2⟩
  · rw [h0, h1, h2]
    rfl
  · rw [h0, h1, h3]
    rfl

/-- The merge's reference runs, leaves its arguments as they were and, declaring no counter, every counter at zero. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
        ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
        ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
        ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
        ∧ r.2.sem = fun _ => 0 :=
  (θ_run Cert.Reference3Ideal.defs _ _).mono (fun r h => ⟨fun c => (h c).2.2.2, sem_eq_zero_of_no_sems (by decide) r.2⟩)
    (Cert.Reference3Ideal.Value.run m g)

set_option maxHeartbeats 2000000 in
/-- The idealized merge and its reference end with the same three results. -/
theorem value3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N, Cert.Kernel3Ideal.Value.run_blocks m g,
    (θ_run Cert.Reference3Ideal.defs _ _).mono (fun r h c => ?_) (Cert.Reference3Ideal.Value.run m' g')⟩
  obtain ⟨h0, h1, h2, h3, h4, h5, h6, h7, h8, h9, h10, h11, h12⟩ := hagree c
  refine ⟨(h c).1.trans ?_, (h c).2.1.trans ?_, (h c).2.2.1.trans ?_, (h c).2.2.2⟩
  · refine (Cert.Reference3Ideal.Value.res0 m' c).trans ?_
    rw [h0, h1, h2, h3, h4, h5, h6, h7, h8, h10, h11]
    exact (Cert.Kernel3Ideal.Value.final_eq0 m c).symm
  · refine (Cert.Reference3Ideal.Value.res1 m' c).trans ?_
    rw [h0, h1, h2, h3, h4, h5, h6, h7, h8, h10, h11, h12]
    exact (Cert.Kernel3Ideal.Value.final_eq1 m c).symm
  · refine (Cert.Reference3Ideal.Value.res2 m' c).trans ?_
    rw [h0, h1, h2, h3, h4, h5, h6, h7, h8, h9, h10, h11, h12]
    exact (Cert.Kernel3Ideal.Value.final_eq2 m c).symm

/-- The latent projections' reference runs, leaves its arguments as they were and, declaring no counter, every counter at zero. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
        ∧ r.2.sem = fun _ => 0 :=
  (θ_run Cert.Reference4Ideal.defs _ _).mono (fun r h => ⟨fun c => (h c).2.2.2, sem_eq_zero_of_no_sems (by decide) r.2⟩)
    (Cert.Reference4Ideal.Value.run m g)

/-- The rounded constants of the latent projections are those named. -/
theorem preserves4 : Cert.preserves_Kernel4_Kernel4Ideal :=
  ⟨IdealRules.named_const.statement Cert.Kernel4Ideal.κ "inv_384" .f32 0x3B2AAAAB#32 ((1 / 384 : ℝ) : EReal) rfl,
    IdealRules.named_const.statement Cert.Kernel4Ideal.κ "inv_96" .f32 0x3C2AAAAB#32 ((1 / 96 : ℝ) : EReal) rfl⟩

set_option maxHeartbeats 2000000 in
/-- The idealized latent projections and their reference end with the same three results. -/
theorem value4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N, Cert.Kernel4Ideal.Value.run_blocks m g,
    (θ_run Cert.Reference4Ideal.defs _ _).mono (fun r h c => ?_) (Cert.Reference4Ideal.Value.run m' g')⟩
  obtain ⟨h0, h1, h2, h3, h4, h5, h6, h7⟩ := hagree c
  refine ⟨(h c).1.trans ?_, (h c).2.1.trans ?_, (h c).2.2.1.trans ?_, (h c).2.2.2⟩
  · refine (Cert.Kernel4Ideal.Value.final12 m c _ fun b h i l => ?_).symm
    refine (Cert.Reference4Ideal.Value.queries_at m' c b h i l).trans ?_
    rw [h0, h2, h4, h6]
    rfl
  · refine (Cert.Kernel4Ideal.Value.final13 m c _ fun b h i l => ?_).symm
    refine (Cert.Reference4Ideal.Value.keys_at m' c b h i l).trans ?_
    rw [h0, h1, h3, h5, h7]
    rfl
  · refine (Cert.Kernel4Ideal.Value.final14 m c _ fun b i n => ?_).symm
    refine (Cert.Reference4Ideal.Value.values_at _ _ _ b i n).trans ?_
    rw [h0, h3, h5]
    rfl

/-- The memory tokens' projection's reference runs, leaves its arguments as they were and, declaring no counter, every counter at zero. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0 :=
  (θ_run Cert.Reference5Ideal.defs _ _).mono (fun r h => ⟨fun c => (h c).2, sem_eq_zero_of_no_sems (by decide) r.2⟩)
    (Cert.Reference5Ideal.Value.run m g)

/-- The idealized projection of the memory tokens and its reference end with the same result. -/
theorem value5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 3 Cert.Kernel5Ideal.cfg0.N, Cert.Kernel5Ideal.Value.run_blocks m g,
    (θ_run Cert.Reference5Ideal.defs _ _).mono (fun r h c => ?_) (Cert.Reference5Ideal.Value.run m' g')⟩
  obtain ⟨h0, h1, h2⟩ := hagree c
  refine ⟨(h c).1.trans ?_, (h c).2⟩
  rw [h0, h1, h2]
  exact (Cert.Kernel5Ideal.Value.final m c).symm

/-- The short convolution's reference runs, leaves its arguments as they were and, declaring no counter, every counter at zero. -/
theorem reference6_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
        ∧ r.2.sem = fun _ => 0 :=
  (θ_run Cert.Reference6Ideal.defs _ _).mono (fun r h => ⟨fun c => (h c).2, sem_eq_zero_of_no_sems (by decide) r.2⟩)
    (Cert.Reference6Ideal.Value.run m g)

/-- The idealized short convolution and its reference end with the same result. -/
theorem value6 : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 Cert.Kernel6Ideal.cfg0.N, Cert.Kernel6Ideal.Value.run_blocks m g,
    (θ_run Cert.Reference6Ideal.defs _ _).mono (fun r h c => ?_) (Cert.Reference6Ideal.Value.run m' g')⟩
  obtain ⟨h0, h1⟩ := hagree c
  refine ⟨(h c).1.trans ?_, (h c).2⟩
  unfold Cert.Reference6Ideal.Value.res_main_v59
  rw [h0, h1]
  exact (Cert.Kernel6Ideal.Value.final m c).symm

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Kernel2.Gen.frame m g, Cert.Kernel2Ideal.Gen.frame, fun m g _ => reference2_frame m g,
  fun m g _ => Cert.Kernel3.Gen.frame m g, fun m g _ => Cert.Kernel3Ideal.Gen.frame m g, fun m g _ => reference3_frame m g,
  fun m g _ => Cert.Kernel4.Gen.frame m g, fun m g _ => Cert.Kernel4Ideal.Gen.frame m g, fun m g _ => reference4_frame m g,
  fun m g _ => Cert.Kernel5.Gen.frame m g, fun m g _ => Cert.Kernel5Ideal.Gen.frame m g, fun m g _ => reference5_frame m g,
  fun m g _ => Cert.Kernel6.Gen.frame m g, fun m g _ => Cert.Kernel6Ideal.Gen.frame m g, fun m g _ => reference6_frame m g,
  trivial, value, trivial, value2, trivial, value3, preserves4, value4, trivial, value5, trivial, value6⟩

end Cert.Proof

end
